-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_apart [hPre_finite_and_apart : Cert.Pre_finite_and_apart.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_and_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 = (fun _ => 1#1)
    ∧ (Cert.Pre_finite_and_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_apart [hPre_finite_and_apart : Cert.Pre_finite_and_apart.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_and_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.1 = (fun _ => 1#1)
    ∧ (Cert.Pre_finite_and_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_and_apart [hKernelIdeal : Cert.KernelIdeal.Facts] [hPre_finite_and_apart : Cert.Pre_finite_and_apart.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_apart m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_and_apart [hReferenceIdeal : Cert.ReferenceIdeal.Facts] [hPre_finite_and_apart : Cert.Pre_finite_and_apart.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_apart m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_and_apart [hKernelIdeal : Cert.KernelIdeal.Facts] [hReferenceIdeal : Cert.ReferenceIdeal.Facts] [hPre_finite_and_apart : Cert.Pre_finite_and_apart.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_apart m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_and_apart : Cert.Pre_finite_and_apart.Facts),
    quiescent_Kernel (hKernel := hKernel)
    ∧ quiescent_KernelIdeal (hKernelIdeal := hKernelIdeal)
    ∧ quiescent_KernelIdeal_pre_finite_and_apart (hKernelIdeal := hKernelIdeal) (hPre_finite_and_apart := hPre_finite_and_apart)
    ∧ quiescent_ReferenceIdeal (hReferenceIdeal := hReferenceIdeal)
    ∧ quiescent_ReferenceIdeal_pre_finite_and_apart (hReferenceIdeal := hReferenceIdeal) (hPre_finite_and_apart := hPre_finite_and_apart)
    ∧ preserves_Kernel_KernelIdeal
    ∧ algebraic_KernelIdeal_ReferenceIdeal_pre_finite_and_apart (hKernelIdeal := hKernelIdeal) (hReferenceIdeal := hReferenceIdeal) (hPre_finite_and_apart := hPre_finite_and_apart)
-- ==== Pre_finite_and_apart.lean ====
abbrev S1x8192x3 : Shape := ⟨3, ![1, 8192, 3]⟩
abbrev S4x8192x3 : Shape := ⟨3, ![4, 8192, 3]⟩
abbrev S4x3x8192 : Shape := ⟨3, ![4, 3, 8192]⟩
abbrev S1x8192x1x3 : Shape := ⟨4, ![1, 8192, 1, 3]⟩
abbrev S1x1x8192x3 : Shape := ⟨4, ![1, 1, 8192, 3]⟩
abbrev S1x8192x8192x3 : Shape := ⟨4, ![1, 8192, 8192, 3]⟩
abbrev S_ : Shape := ⟨0, ![]⟩
abbrev S1x8192x8192 : Shape := ⟨3, ![1, 8192, 8192]⟩
abbrev S8192 : Shape := ⟨1, ![8192]⟩
abbrev S1x1x8192 : Shape := ⟨3, ![1, 1, 8192]⟩
abbrev S1x8192x16 : Shape := ⟨3, ![1, 8192, 16]⟩
abbrev S1x8192x1 : Shape := ⟨3, ![1, 8192, 1]⟩
abbrev S1x1x1x8192x1x16 : Shape := ⟨6, ![1, 1, 1, 8192, 1, 16]⟩
abbrev S4x1x1x8192x1x16 : Shape := ⟨6, ![4, 1, 1, 8192, 1, 16]⟩
abbrev S4x8192x16 : Shape := ⟨3, ![4, 8192, 16]⟩
abbrev S4x3x8192x1 : Shape := ⟨4, ![4, 3, 8192, 1]⟩
abbrev S4x8192x16x1 : Shape := ⟨4, ![4, 8192, 16, 1]⟩
abbrev S4x3x8192x16 : Shape := ⟨4, ![4, 3, 8192, 16]⟩

class Facts : Prop where
  transposes_S4x8192x3_S4x3x8192_0_2_1 : S4x8192x3.Transposes [0, 2, 1] S4x3x8192
  bcast_S1x8192x3_S1x8192x1x3_0_1_3 : S1x8192x3.BroadcastsInDim S1x8192x1x3 (![0, 1, 3] : Fin 3 → Fin S1x8192x1x3.rank)
  bcast_S1x8192x3_S1x1x8192x3_0_2_3 : S1x8192x3.BroadcastsInDim S1x1x8192x3 (![0, 2, 3] : Fin 3 → Fin S1x1x8192x3.rank)
  bcast_S1x8192x1x3_S1x8192x8192x3_0_1_2_3 : S1x8192x1x3.BroadcastsInDim S1x8192x8192x3 (![0, 1, 2, 3] : Fin 4 → Fin S1x8192x8192x3.rank)
  bcast_S1x1x8192x3_S1x8192x8192x3_0_1_2_3 : S1x1x8192x3.BroadcastsInDim S1x8192x8192x3 (![0, 1, 2, 3] : Fin 4 → Fin S1x8192x8192x3.rank)
  reducesTo_S1x8192x8192x3_S1x8192x8192_d3 : S1x8192x8192x3.ReducesTo [3] S1x8192x8192
  h_S_ : 0 < S_.numel
  bcast_S_S1x8192x8192 : S_.BroadcastsInDim S1x8192x8192 (![] : Fin 0 → Fin S1x8192x8192.rank)
  bcast_S8192_S1x1x8192_2 : S8192.BroadcastsInDim S1x1x8192 (![2] : Fin 1 → Fin S1x1x8192.rank)
  bcast_S1x1x8192_S1x8192x8192_0_1_2 : S1x1x8192.BroadcastsInDim S1x8192x8192 (![0, 1, 2] : Fin 3 → Fin S1x8192x8192.rank)
  sliceFits_S1x8192x8192_S1x8192x16 : S1x8192x8192.Slices (fun _ => 0) S1x8192x16
  slices_S1x8192x16_S1x8192x1_0_0_0 : S1x8192x16.Slices ![0, 0, 0] S1x8192x1
  bcast_S_S1x8192x1 : S_.BroadcastsInDim S1x8192x1 (![] : Fin 0 → Fin S1x8192x1.rank)
  bcast_S_S1x8192x16 : S_.BroadcastsInDim S1x8192x16 (![] : Fin 0 → Fin S1x8192x16.rank)
  bcast_S1x8192x1_S1x8192x16_0_1_2 : S1x8192x1.BroadcastsInDim S1x8192x16 (![0, 1, 2] : Fin 3 → Fin S1x8192x16.rank)
  shapeCasts_S1x8192x16_S1x1x1x8192x1x16 : S1x8192x16.ShapeCasts S1x1x1x8192x1x16
  bcast_S1x1x1x8192x1x16_S4x1x1x8192x1x16_0_1_2_3_4_5 : S1x1x1x8192x1x16.BroadcastsInDim S4x1x1x8192x1x16 (![0, 1, 2, 3, 4, 5] : Fin 6 → Fin S4x1x1x8192x1x16.rank)
  shapeCasts_S4x1x1x8192x1x16_S4x8192x16 : S4x1x1x8192x1x16.ShapeCasts S4x8192x16
  bcast_S4x3x8192_S4x3x8192x1_0_1_2 : S4x3x8192.BroadcastsInDim S4x3x8192x1 (![0, 1, 2] : Fin 3 → Fin S4x3x8192x1.rank)
  bcast_S_S4x8192x16 : S_.BroadcastsInDim S4x8192x16 (![] : Fin 0 → Fin S4x8192x16.rank)
  bcast_S4x8192x16_S4x8192x16x1_0_1_2 : S4x8192x16.BroadcastsInDim S4x8192x16x1 (![0, 1, 2] : Fin 3 → Fin S4x8192x16x1.rank)
  bcast_S4x3x8192x1_S4x3x8192x16_0_1_2_3 : S4x3x8192x1.BroadcastsInDim S4x3x8192x16 (![0, 1, 2, 3] : Fin 4 → Fin S4x3x8192x16.rank)
  reducesTo_S4x3x8192x16_S4x8192x16_d1 : S4x3x8192x16.ReducesTo [1] S4x8192x16
  bcast_S_S1x8192x3 : S_.BroadcastsInDim S1x8192x3 (![] : Fin 0 → Fin S1x8192x3.rank)
  bcast_S_S4x8192x3 : S_.BroadcastsInDim S4x8192x3 (![] : Fin 0 → Fin S4x8192x3.rank)
  gather_S4x3x8192_S4x8192x16x1_S4x3x8192x16_1_2_0_0_2_3_131_wf : GatherDims.WF S4x3x8192 S4x8192x16x1 S4x3x8192x16 [1] [2] [0] [2] [0] 3 ![1, 3, 1]

variable [Facts]

def gather_S4x3x8192_S4x8192x16x1_S4x3x8192x16_1_2_0_0_2_3_131 : GatherDims S4x3x8192 S4x8192x16x1 S4x3x8192x16 where
  offsetDims := [1]
  collapsedSliceDims := [2]
  operandBatchingDims := [0]
  startIndicesBatchingDims := [0]
  startIndexMap := [2]
  indexVectorDim := 3
  sliceSizes := ![1, 3, 1]
  wf := gather_S4x3x8192_S4x8192x16x1_S4x3x8192x16_1_2_0_0_2_3_131_wf
def fn_where {F : FTy → Type} [FloatOps F] (arg0 : IVec S1x8192x8192 1) (arg1 : IVec S1x1x8192 32) (arg2 : IVec S_ 32) : IVec S1x8192x8192 32 :=
  let v0 : IVec S_ 32 := id arg2
  let v1 : IVec S1x8192x8192 32 := broadcastInDim S1x8192x8192 ![0, 1, 2] bcast_S1x1x8192_S1x8192x8192_0_1_2 arg1
  let v2 : IVec S1x8192x8192 32 := broadcastInDim S1x8192x8192 ![] bcast_S_S1x8192x8192 v0
  let v3 : IVec S1x8192x8192 32 := select arg0 v1 v2
  v3

def fn_where_0 {F : FTy → Type} [FloatOps F] (arg0 : IVec S1x8192x1 1) (arg1 : IVec S_ 32) (arg2 : IVec S1x8192x1 32) : IVec S1x8192x1 32 :=
  let v0 : IVec S_ 32 := id arg1
  let v1 : IVec S1x8192x1 32 := broadcastInDim S1x8192x1 ![] bcast_S_S1x8192x1 v0
  let v2 : IVec S1x8192x1 32 := select arg0 v1 arg2
  v2

def fn_where_1 {F : FTy → Type} [FloatOps F] (arg0 : IVec S1x8192x16 1) (arg1 : IVec S1x8192x1 32) (arg2 : IVec S1x8192x16 32) : IVec S1x8192x16 32 :=
  let v0 : IVec S1x8192x16 32 := broadcastInDim S1x8192x16 ![0, 1, 2] bcast_S1x8192x1_S1x8192x16_0_1_2 arg1
  let v1 : IVec S1x8192x16 32 := select arg0 v0 arg2
  v1

def fn_part2 {F : FTy → Type} [FloatOps F] (main_arg0 : FVec F S1x8192x3 .f32) (main_arg1 : FVec F S4x8192x3 .f32) (main_v36 : FVec F S4x8192x16 .f32) : IVec S1x8192x3 1 × IVec S4x8192x3 1 × IVec S4x8192x16 1 :=
  let main_cst_7 : FVec F S_ .f32 := constant S_ .f32 0x00000000#32
  let main_v37 : FVec F S4x8192x16 .f32 := broadcastInDim S4x8192x16 ![] bcast_S_S4x8192x16 main_cst_7
  let main_v38 : IVec S4x8192x16 1 := cmpf .oeq main_v36 main_v37
  let main_cst_8 : FVec F S_ .f32 := constant S_ .f32 0x2B8CBCCC#32
  let main_v39 : FVec F S4x8192x16 .f32 := broadcastInDim S4x8192x16 ![] bcast_S_S4x8192x16 main_cst_8
  let main_v40 : IVec S4x8192x16 1 := cmpf .oge main_v36 main_v39
  let main_v41 : IVec S4x8192x16 1 := ori main_v38 main_v40
  let main_v42 : FVec F S1x8192x3 .f32 := Host.absf main_arg0
  let main_cst_9 : FVec F S_ .f32 := constant S_ .f32 0x7F800000#32
  let main_v43 : FVec F S1x8192x3 .f32 := broadcastInDim S1x8192x3 ![] bcast_S_S1x8192x3 main_cst_9
  let main_v44 : IVec S1x8192x3 1 := cmpf .olt main_v42 main_v43
  let main_v45 : FVec F S4x8192x3 .f32 := Host.absf main_arg1
  let main_cst_10 : FVec F S_ .f32 := constant S_ .f32 0x7F800000#32
  let main_v46 : FVec F S4x8192x3 .f32 := broadcastInDim S4x8192x3 ![] bcast_S_S4x8192x3 main_cst_10
  let main_v47 : IVec S4x8192x3 1 := cmpf .olt main_v45 main_v46
  (main_v44, main_v47, main_v41)

def fn_part1 {F : FTy → Type} [FloatOps F] (main_arg0 : FVec F S1x8192x3 .f32) (main_arg1 : FVec F S4x8192x3 .f32) (main_v0 : FVec F S4x3x8192 .f32) (main_v14 : IVec S1x8192x16 32) (main_v15 : IVec S1x8192x1 32) (main_v17 : IVec S1x8192x1 1) : IVec S1x8192x3 1 × IVec S4x8192x3 1 × IVec S4x8192x16 1 :=
  let main_c_2 : IVec S_ 32 := constantI S_ 32 0#32
  let main_v18 : IVec S1x8192x1 32 := fn_where_0 (F := F) main_v17 main_c_2 main_v15
  let main_c_3 : IVec S_ 32 := constantI S_ 32 8192#32
  let main_v19 : IVec S1x8192x16 32 := broadcastInDim S1x8192x16 ![] bcast_S_S1x8192x16 main_c_3
  let main_v20 : IVec S1x8192x16 1 := cmpi .eq main_v14 main_v19
  let main_v21 : IVec S1x8192x16 32 := fn_where_1 (F := F) main_v20 main_v18 main_v14
  let main_v22 : IVec S1x1x1x8192x1x16 32 := shapeCast S1x1x1x8192x1x16 main_v21 shapeCasts_S1x8192x16_S1x1x1x8192x1x16
  let main_v23 : IVec S4x1x1x8192x1x16 32 := broadcastInDim S4x1x1x8192x1x16 ![0, 1, 2, 3, 4, 5] bcast_S1x1x1x8192x1x16_S4x1x1x8192x1x16_0_1_2_3_4_5 main_v22
  let main_v24 : IVec S4x8192x16 32 := shapeCast S4x8192x16 main_v23 shapeCasts_S4x1x1x8192x1x16_S4x8192x16
  let main_v25 : FVec F S4x3x8192x1 .f32 := broadcastInDim S4x3x8192x1 ![0, 1, 2] bcast_S4x3x8192_S4x3x8192x1_0_1_2 main_v0
  let main_c_4 : IVec S_ 32 := constantI S_ 32 0#32
  let main_v26 : IVec S4x8192x16 32 := broadcastInDim S4x8192x16 ![] bcast_S_S4x8192x16 main_c_4
  let main_v27 : IVec S4x8192x16 1 := cmpi .slt main_v24 main_v26
  let main_c_5 : IVec S_ 32 := constantI S_ 32 8192#32
  let main_v28 : IVec S4x8192x16 32 := broadcastInDim S4x8192x16 ![] bcast_S_S4x8192x16 main_c_5
  let main_v29 : IVec S4x8192x16 32 := addi main_v24 main_v28
  let main_v30 : IVec S4x8192x16 32 := select main_v27 main_v29 main_v24
  let main_v31 : IVec S4x8192x16x1 32 := broadcastInDim S4x8192x16x1 ![0, 1, 2] bcast_S4x8192x16_S4x8192x16x1_0_1_2 main_v30
  let main_v32 : FVec F S4x3x8192x16 .f32 := (fun x i => Host.gather gather_S4x3x8192_S4x8192x16x1_S4x3x8192x16_1_2_0_0_2_3_131 x i) main_v0 main_v31
  let main_v33 : FVec F S4x3x8192x16 .f32 := broadcastInDim S4x3x8192x16 ![0, 1, 2, 3] bcast_S4x3x8192x1_S4x3x8192x16_0_1_2_3 main_v25
  let main_v34 : FVec F S4x3x8192x16 .f32 := subf main_v33 main_v32
  let main_v35 : FVec F S4x3x8192x16 .f32 := mulf main_v34 main_v34
  let main_cst_6 : FVec F S_ .f32 := constant S_ .f32 0x00000000#32
  let main_v36 : FVec F S4x8192x16 .f32 := (fun x v => Host.reduceAdd x v reducesTo_S4x3x8192x16_S4x8192x16_d1 h_S_) main_v35 main_cst_6
  fn_part2 (F := F) main_arg0 main_arg1 main_v36

def fn {F : FTy → Type} [FloatOps F] (main_arg0 : FVec F S1x8192x3 .f32) (main_arg1 : FVec F S4x8192x3 .f32) : IVec S1x8192x3 1 × IVec S4x8192x3 1 × IVec S4x8192x16 1 :=
  let main_v0 : FVec F S4x3x8192 .f32 := (transpose S4x3x8192 [0, 2, 1] · transposes_S4x8192x3_S4x3x8192_0_2_1) main_arg1
  let main_v1 : FVec F S1x8192x1x3 .f32 := broadcastInDim S1x8192x1x3 ![0, 1, 3] bcast_S1x8192x3_S1x8192x1x3_0_1_3 main_arg0
  let main_v2 : FVec F S1x1x8192x3 .f32 := broadcastInDim S1x1x8192x3 ![0, 2, 3] bcast_S1x8192x3_S1x1x8192x3_0_2_3 main_arg0
  let main_v3 : FVec F S1x8192x8192x3 .f32 := broadcastInDim S1x8192x8192x3 ![0, 1, 2, 3] bcast_S1x8192x1x3_S1x8192x8192x3_0_1_2_3 main_v1
  let main_v4 : FVec F S1x8192x8192x3 .f32 := broadcastInDim S1x8192x8192x3 ![0, 1, 2, 3] bcast_S1x1x8192x3_S1x8192x8192x3_0_1_2_3 main_v2
  let main_v5 : FVec F S1x8192x8192x3 .f32 := subf main_v3 main_v4
  let main_v6 : FVec F S1x8192x8192x3 .f32 := mulf main_v5 main_v5
  let main_cst : FVec F S_ .f32 := constant S_ .f32 0x00000000#32
  let main_v7 : FVec F S1x8192x8192 .f32 := (fun x v => Host.reduceAdd x v reducesTo_S1x8192x8192x3_S1x8192x8192_d3 h_S_) main_v6 main_cst
  let main_cst_0 : FVec F S_ .f32 := constant S_ .f32 0x3C23D70A#32
  let main_v8 : FVec F S1x8192x8192 .f32 := broadcastInDim S1x8192x8192 ![] bcast_S_S1x8192x8192 main_cst_0
  let main_v9 : IVec S1x8192x8192 1 := cmpf .olt main_v7 main_v8
  let main_v10 : IVec S8192 32 := iotaInDim S8192 32 0
  let main_v11 : IVec S1x1x8192 32 := broadcastInDim S1x1x8192 ![2] bcast_S8192_S1x1x8192_2 main_v10
  let main_c : IVec S_ 32 := constantI S_ 32 8192#32
  let main_v12 : IVec S1x8192x8192 32 := fn_where (F := F) main_v9 main_v11 main_c
  let main_v13 : IVec S1x8192x8192 32 := negi main_v12
  let main_values : IVec S1x8192x16 32 := (fun x => (Host.topK S1x8192x16 2 (IntOp.cmpi .sgt) x sliceFits_S1x8192x8192_S1x8192x16).1) main_v13
  let main_indices : IVec S1x8192x16 32 := (fun x => (Host.topK S1x8192x16 2 (IntOp.cmpi .sgt) x sliceFits_S1x8192x8192_S1x8192x16).2) main_v13
  let main_v14 : IVec S1x8192x16 32 := negi main_values
  let main_v15 : IVec S1x8192x1 32 := (extractStridedSlice S1x8192x1 ![0, 0, 0] · slices_S1x8192x16_S1x8192x1_0_0_0) main_v14
  let main_c_1 : IVec S_ 32 := constantI S_ 32 8192#32
  let main_v16 : IVec S1x8192x1 32 := broadcastInDim S1x8192x1 ![] bcast_S_S1x8192x1 main_c_1
  let main_v17 : IVec S1x8192x1 1 := cmpi .eq main_v15 main_v16
  fn_part1 (F := F) main_arg0 main_arg1 main_v0 main_v14 main_v15 main_v17
-- ==== Kernel.lean ====
abbrev S1x8192x3 : Shape := ⟨3, ![1, 8192, 3]⟩
abbrev S4x8192x3 : Shape := ⟨3, ![4, 8192, 3]⟩
abbrev S8192x3 : Shape := ⟨2, ![8192, 3]⟩
abbrev S_ : Shape := ⟨0, ![]⟩
abbrev S8192 : Shape := ⟨1, ![8192]⟩
abbrev S8192x1 : Shape := ⟨2, ![8192, 1]⟩
abbrev S8192x8 : Shape := ⟨2, ![8192, 8]⟩
abbrev S8x8192 : Shape := ⟨2, ![8, 8192]⟩
abbrev S4x8192 : Shape := ⟨2, ![4, 8192]⟩
abbrev S4x8192x1 : Shape := ⟨3, ![4, 8192, 1]⟩
abbrev S4x8192x8 : Shape := ⟨3, ![4, 8192, 8]⟩
abbrev S4x8x8192 : Shape := ⟨3, ![4, 8, 8192]⟩
abbrev S1x1 : Shape := ⟨2, ![1, 1]⟩
abbrev S256x8 : Shape := ⟨2, ![256, 8]⟩
abbrev S4x256x8 : Shape := ⟨3, ![4, 256, 8]⟩
abbrev S1x256x8 : Shape := ⟨3, ![1, 256, 8]⟩
abbrev S256x256 : Shape := ⟨2, ![256, 256]⟩
abbrev S256x1 : Shape := ⟨2, ![256, 1]⟩
abbrev S8x256 : Shape := ⟨2, ![8, 256]⟩
abbrev S1x8x256 : Shape := ⟨3, ![1, 8, 256]⟩
abbrev S256 : Shape := ⟨1, ![256]⟩
abbrev S1 : Shape := ⟨1, ![1]⟩

abbrev nBuf : Space → Nat
  | .hbm => 52
  | .vmem => 7
  | .smem => 0
  | _ => 0

abbrev bufTy : (tb : Table) → Fin (tcTables nBuf tb) → BufTy
  | .hbm, ⟨0, _⟩ => ⟨S1x8192x3, .f32⟩
  | .hbm, ⟨1, _⟩ => ⟨S4x8192x3, .f32⟩
  | .hbm, ⟨2, _⟩ => ⟨S8192x3, .f32⟩
  | .hbm, ⟨3, _⟩ => ⟨S8192x3, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S_, .f32⟩
  | .hbm, ⟨10, _⟩ => ⟨S8192x3, .f32⟩
  | .hbm, ⟨11, _⟩ => ⟨S8192x8, .f32⟩
  | .hbm, ⟨12, _⟩ => ⟨S8192x3, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S_, .f32⟩
  | .hbm, ⟨19, _⟩ => ⟨S8192x3, .f32⟩
  | .hbm, ⟨20, _⟩ => ⟨S_, .f32⟩
  | .hbm, ⟨21, _⟩ => ⟨S8192x3, .f32⟩
  | .hbm, ⟨22, _⟩ => ⟨S8192x3, .f32⟩
  | .hbm, ⟨23, _⟩ => ⟨S8192x8, .f32⟩
  | .hbm, ⟨24, _⟩ => ⟨S8x8192, .f32⟩
  | .hbm, ⟨25, _⟩ => ⟨S4x8192x3, .f32⟩
  | .hbm, ⟨26, _⟩ => ⟨S_, .f32⟩
  | .hbm, ⟨27, _⟩ => ⟨S4x8192, .f32⟩
  | .hbm, ⟨28, _⟩ => ⟨S4x8192x1, .f32⟩
  | .hbm, ⟨29, _⟩ => ⟨S_, .f32⟩
  | .hbm, ⟨30, _⟩ => ⟨S8192x1, .f32⟩
  | .hbm, ⟨31, _⟩ => ⟨S_, .f32⟩
  | .hbm, ⟨32, _⟩ => ⟨S8192x3, .f32⟩
  | .hbm, ⟨33, _⟩ => ⟨S4x8192x1, .f32⟩
  | .hbm, ⟨34, _⟩ => ⟨S4x8192x3, .f32⟩
  | .hbm, ⟨35, _⟩ => ⟨S4x8192x8, .f32⟩
  | .hbm, ⟨36, _⟩ => ⟨S4x8192x3, .f32⟩
  | .hbm, ⟨37, _⟩ => ⟨S_, .f32⟩
  | .hbm, ⟨38, _⟩ => ⟨S4x8192, .f32⟩
  | .hbm, ⟨39, _⟩ => ⟨S4x8192x1, .f32⟩
  | .hbm, ⟨40, _⟩ => ⟨S_, .f32⟩
  | .hbm, ⟨41, _⟩ => ⟨S8192x1, .f32⟩
  | .hbm, ⟨42, _⟩ => ⟨S_, .f32⟩
  | .hbm, ⟨43, _⟩ => ⟨S8192x3, .f32⟩
  | .hbm, ⟨44, _⟩ => ⟨S_, .f32⟩
  | .hbm, ⟨45, _⟩ => ⟨S4x8192x3, .f32⟩
  | .hbm, ⟨46, _⟩ => ⟨S4x8192x3, .f32⟩
  | .hbm, ⟨47, _⟩ => ⟨S4x8192x1, .f32⟩
  | .hbm, ⟨48, _⟩ => ⟨S4x8192x3, .f32⟩
  | .hbm, ⟨49, _⟩ => ⟨S4x8192x8, .f32⟩
  | .hbm, ⟨50, _⟩ => ⟨S4x8x8192, .f32⟩
  | .hbm, ⟨51, _⟩ => ⟨S1x1, .f32⟩
  | .local _ .vmem, ⟨0, _⟩ => ⟨S256x8, .f32⟩
  | .local _ .vmem, ⟨1, _⟩ => ⟨S256x8, .f32⟩
  | .local _ .vmem, ⟨2, _⟩ => ⟨S8x8192, .f32⟩
  | .local _ .vmem, ⟨3, _⟩ => ⟨S4x256x8, .f32⟩
  | .local _ .vmem, ⟨4, _⟩ => ⟨S4x256x8, .f32⟩
  | .local _ .vmem, ⟨5, _⟩ => ⟨S4x8x8192, .f32⟩
  | .local _ .vmem, ⟨6, _⟩ => ⟨S1x1, .f32⟩
  | _, _ => ⟨S1x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_cst_4 : Ref sig .tc := ⟨.hbm, 18, rfl⟩
abbrev main_v11 : Ref sig .tc := ⟨.hbm, 19, rfl⟩
abbrev main_cst_5 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_6 : Ref sig .tc := ⟨.hbm, 26, rfl⟩
abbrev main_v17 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_cst_8 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_9 : Ref sig .tc := ⟨.hbm, 37, rfl⟩
abbrev main_v25 : Ref sig .tc := ⟨.hbm, 38, rfl⟩
abbrev main_v26 : Ref sig .tc := ⟨.hbm, 39, rfl⟩
abbrev main_cst_10 : Ref sig .tc := ⟨.hbm, 40, rfl⟩
abbrev main_v27 : Ref sig .tc := ⟨.hbm, 41, rfl⟩
abbrev main_cst_11 : Ref sig .tc := ⟨.hbm, 42, rfl⟩
abbrev main_v28 : Ref sig .tc := ⟨.hbm, 43, rfl⟩
abbrev main_cst_12 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c32_i32 : BitVec 32 := 32#32
  let v17 : BitVec 32 := Scalar.addi c0_i32 c32_i32
  let c1_i32 : BitVec 32 := 1#32
  ⟨c0_i32, v17, c1_i32⟩
def k0_off1 (k0_t1 : Fin k0_t1_loop.trips) : Fin 2 → Nat :=
  let c0_19 : Index := 0#32
  let c0_i32 : BitVec 32 := 0#32
  let c1_i32 : BitVec 32 := 1#32
  let arg6 : BitVec 32 := Scf.iv c0_i32 c1_i32 k0_t1
  let c256_i32 : BitVec 32 := 256#32
  let v35 : BitVec 32 := Scalar.muli arg6 c256_i32
  let v36 : Index := Scalar.indexCast v35
  ![0, v36.toNat]
def k0_off2 (k0_t1 : Fin k0_t1_loop.trips) : Fin 3 → Nat :=
  let c0_25 : Index := 0#32
  let c0_26 : Index := 0#32
  let c0_i32 : BitVec 32 := 0#32
  let c1_i32 : BitVec 32 := 1#32
  let arg6 : BitVec 32 := Scf.iv c0_i32 c1_i32 k0_t1
  let c256_i32 : BitVec 32 := 256#32
  let v35 : BitVec 32 := Scalar.muli arg6 c256_i32
  let v54 : Index := Scalar.indexCast v35
  ![0, 0, v54.toNat]
def k0_off3 (k0_t1 : Fin k0_t1_loop.trips) : Fin 3 → Nat :=
  let c1_29 : Index := 1#32
  let c0_30 : Index := 0#32
  let c0_i32 : BitVec 32 := 0#32
  let c1_i32 : BitVec 32 := 1#32
  let arg6 : BitVec 32 := Scf.iv c0_i32 c1_i32 k0_t1
  let c256_i32 : BitVec 32 := 256#32
  let v35 : BitVec 32 := Scalar.muli arg6 c256_i32
  let v62 : Index := Scalar.indexCast v35
  ![1, 0, v62.toNat]
def k0_off4 (k0_t1 : Fin k0_t1_loop.trips) : Fin 3 → Nat :=
  let c2_33 : Index := 2#32
  let c0_34 : Index := 0#32
  let c0_i32 : BitVec 32 := 0#32
  let c1_i32 : BitVec 32 := 1#32
  let arg6 : BitVec 32 := Scf.iv c0_i32 c1_i32 k0_t1
  let c256_i32 : BitVec 32 := 256#32
  let v35 : BitVec 32 := Scalar.muli arg6 c256_i32
  let v71 : Index := Scalar.indexCast v35
  ![2, 0, v71.toNat]
def k0_off5 (k0_t1 : Fin k0_t1_loop.trips) : Fin 3 → Nat :=
  let c3_37 : Index := 3#32
  let c0_38 : Index := 0#32
  let c0_i32 : BitVec 32 := 0#32
  let c1_i32 : BitVec 32 := 1#32
  let arg6 : BitVec 32 := Scf.iv c0_i32 c1_i32 k0_t1
  let c256_i32 : BitVec 32 := 256#32
  let v35 : BitVec 32 := Scalar.muli arg6 c256_i32
  let v80 : Index := Scalar.indexCast v35
  ![3, 0, v80.toNat]
def k0_cond1 (i : grid0.Coords) : BitVec 1 :=
  let arg0 : BitVec 32 := BitVec.ofNat 32 (i 0).val
  let c0_i32_15 : BitVec 32 := 0#32
  let v29 : BitVec 1 := Scalar.cmpi .eq arg0 c0_i32_15
  let v30 : BitVec 32 := Scalar.extui v29
  let c0_i32_16 : BitVec 32 := 0#32
  let v31 : BitVec 1 := Scalar.cmpi .ne v30 c0_i32_16
  v31

def k0_cond2 (i : grid0.Coords) : BitVec 1 :=
  let arg0 : BitVec 32 := BitVec.ofNat 32 (i 0).val
  let c0_i32_17 : BitVec 32 := 0#32
  let v32 : BitVec 1 := Scalar.cmpi .ne arg0 c0_i32_17
  let v33 : BitVec 32 := Scalar.extui v32
  let c0_i32_18 : BitVec 32 := 0#32
  let v34 : BitVec 1 := Scalar.cmpi .ne v33 c0_i32_18
  v34

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x256x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x8x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S1x8192x3 : Shape := ⟨3, ![1, 8192, 3]⟩
abbrev S4x8192x3 : Shape := ⟨3, ![4, 8192, 3]⟩
abbrev S4x3x8192 : Shape := ⟨3, ![4, 3, 8192]⟩
abbrev S1x8192x1x3 : Shape := ⟨4, ![1, 8192, 1, 3]⟩
abbrev S1x1x8192x3 : Shape := ⟨4, ![1, 1, 8192, 3]⟩
abbrev S1x8192x8192x3 : Shape := ⟨4, ![1, 8192, 8192, 3]⟩
abbrev S_ : Shape := ⟨0, ![]⟩
abbrev S1x8192x8192 : Shape := ⟨3, ![1, 8192, 8192]⟩
abbrev S8192 : Shape := ⟨1, ![8192]⟩
abbrev S1x1x8192 : Shape := ⟨3, ![1, 1, 8192]⟩
abbrev S1x8192x16 : Shape := ⟨3, ![1, 8192, 16]⟩
abbrev S1x8192x1 : Shape := ⟨3, ![1, 8192, 1]⟩
abbrev S1x1x1x8192x1x16 : Shape := ⟨6, ![1, 1, 1, 8192, 1, 16]⟩
abbrev S4x1x1x8192x1x16 : Shape := ⟨6, ![4, 1, 1, 8192, 1, 16]⟩
abbrev S4x8192x16 : Shape := ⟨3, ![4, 8192, 16]⟩
abbrev S4x8192x16x1 : Shape := ⟨4, ![4, 8192, 16, 1]⟩
abbrev S4x3x8192x16 : Shape := ⟨4, ![4, 3, 8192, 16]⟩
abbrev S4x3x8192x1 : Shape := ⟨4, ![4, 3, 8192, 1]⟩
abbrev S4x8192 : Shape := ⟨2, ![4, 8192]⟩
abbrev S4 : Shape := ⟨1, ![4]⟩
abbrev S1x1 : Shape := ⟨2, ![1, 1]⟩

abbrev nBuf : Space → Nat
  | .hbm => 86
  | .vmem => 0
  | .smem => 0
  | _ => 0

abbrev bufTy : (tb : Table) → Fin (tcTables nBuf tb) → BufTy
  | .hbm, ⟨0, _⟩ => ⟨S1x8192x3, .f32⟩
  | .hbm, ⟨1, _⟩ => ⟨S4x8192x3, .f32⟩
  | .hbm, ⟨2, _⟩ => ⟨S4x3x8192, .f32⟩
  | .hbm, ⟨3, _⟩ => ⟨S1x8192x1x3, .f32⟩
  | .hbm, ⟨4, _⟩ => ⟨S1x1x8192x3, .f32⟩
  | .hbm, ⟨5, _⟩ => ⟨S1x8192x8192x3, .f32⟩
  | .hbm, ⟨6, _⟩ => ⟨S1x8192x8192x3, .f32⟩
  | .hbm, ⟨7, _⟩ => ⟨S1x8192x8192x3, .f32⟩
  | .hbm, ⟨8, _⟩ => ⟨S1x8192x8192x3, .f32⟩
  | .hbm, ⟨9, _⟩ => ⟨S_, .f32⟩
  | .hbm, ⟨10, _⟩ => ⟨S1x8192x8192, .f32⟩
  | .hbm, ⟨11, _⟩ => ⟨S_, .f32⟩
  | .hbm, ⟨12, _⟩ => ⟨S1x8192x8192, .f32⟩
  | .hbm, ⟨13, _⟩ => ⟨S1x8192x8192, .i1⟩
  | .hbm, ⟨14, _⟩ => ⟨S8192, .i32⟩
  | .hbm, ⟨15, _⟩ => ⟨S1x1x8192, .i32⟩
  | .hbm, ⟨16, _⟩ => ⟨S_, .i32⟩
  | .hbm, ⟨17, _⟩ => ⟨S_, .i32⟩
  | .hbm, ⟨18, _⟩ => ⟨S1x8192x8192, .i32⟩
  | .hbm, ⟨19, _⟩ => ⟨S1x8192x8192, .i32⟩
  | .hbm, ⟨20, _⟩ => ⟨S1x8192x8192, .i32⟩
  | .hbm, ⟨21, _⟩ => ⟨S1x8192x8192, .i32⟩
  | .hbm, ⟨22, _⟩ => ⟨S1x8192x16, .i32⟩
  | .hbm, ⟨23, _⟩ => ⟨S1x8192x16, .i32⟩
  | .hbm, ⟨24, _⟩ => ⟨S1x8192x16, .i32⟩
  | .hbm, ⟨25, _⟩ => ⟨S1x8192x1, .i32⟩
  | .hbm, ⟨26, _⟩ => ⟨S_, .i32⟩
  | .hbm, ⟨27, _⟩ => ⟨S1x8192x1, .i32⟩
  | .hbm, ⟨28, _⟩ => ⟨S1x8192x1, .i1⟩
  | .hbm, ⟨29, _⟩ => ⟨S_, .i32⟩
  | .hbm, ⟨30, _⟩ => ⟨S_, .i32⟩
  | .hbm, ⟨31, _⟩ => ⟨S1x8192x1, .i32⟩
  | .hbm, ⟨32, _⟩ => ⟨S1x8192x1, .i32⟩
  | .hbm, ⟨33, _⟩ => ⟨S_, .i32⟩
  | .hbm, ⟨34, _⟩ => ⟨S1x8192x16, .i32⟩
  | .hbm, ⟨35, _⟩ => ⟨S1x8192x16, .i1⟩
  | .hbm, ⟨36, _⟩ => ⟨S1x8192x16, .i32⟩
  | .hbm, ⟨37, _⟩ => ⟨S1x8192x16, .i32⟩
  | .hbm, ⟨38, _⟩ => ⟨S1x1x1x8192x1x16, .i32⟩
  | .hbm, ⟨39, _⟩ => ⟨S4x1x1x8192x1x16, .i32⟩
  | .hbm, ⟨40, _⟩ => ⟨S4x8192x16, .i32⟩
  | .hbm, ⟨41, _⟩ => ⟨S_, .i32⟩
  | .hbm, ⟨42, _⟩ => ⟨S4x8192x16, .i32⟩
  | .hbm, ⟨43, _⟩ => ⟨S4x8192x16, .i1⟩
  | .hbm, ⟨44, _⟩ => ⟨S_, .i32⟩
  | .hbm, ⟨45, _⟩ => ⟨S4x8192x16, .i32⟩
  | .hbm, ⟨46, _⟩ => ⟨S4x8192x16, .i32⟩
  | .hbm, ⟨47, _⟩ => ⟨S4x8192x16, .i32⟩
  | .hbm, ⟨48, _⟩ => ⟨S4x8192x16x1, .i32⟩
  | .hbm, ⟨49, _⟩ => ⟨S4x3x8192x16, .f32⟩
  | .hbm, ⟨50, _⟩ => ⟨S4x3x8192x1, .f32⟩
  | .hbm, ⟨51, _⟩ => ⟨S4x3x8192x16, .f32⟩
  | .hbm, ⟨52, _⟩ => ⟨S4x3x8192x16, .f32⟩
  | .hbm, ⟨53, _⟩ => ⟨S4x3x8192x16, .f32⟩
  | .hbm, ⟨54, _⟩ => ⟨S_, .f32⟩
  | .hbm, ⟨55, _⟩ => ⟨S4x8192x16, .f32⟩
  | .hbm, ⟨56, _⟩ => ⟨S_, .f32⟩
  | .hbm, ⟨57, _⟩ => ⟨S4x8192x16, .f32⟩
  | .hbm, ⟨58, _⟩ => ⟨S4x8192x16, .i1⟩
  | .hbm, ⟨59, _⟩ => ⟨S_, .f32⟩
  | .hbm, ⟨60, _⟩ => ⟨S_, .f32⟩
  | .hbm, ⟨61, _⟩ => ⟨S4x8192x16, .f32⟩
  | .hbm, ⟨62, _⟩ => ⟨S4x8192x16, .f32⟩
  | .hbm, ⟨63, _⟩ => ⟨S_, .f32⟩
  | .hbm, ⟨64, _⟩ => ⟨S4x8192x16, .f32⟩
  | .hbm, ⟨65, _⟩ => ⟨S4x8192x16, .i1⟩
  | .hbm, ⟨66, _⟩ => ⟨S4x8192x16, .f32⟩
  | .hbm, ⟨67, _⟩ => ⟨S_, .f32⟩
  | .hbm, ⟨68, _⟩ => ⟨S_, .f32⟩
  | .hbm, ⟨69, _⟩ => ⟨S4x8192x16, .f32⟩
  | .hbm, ⟨70, _⟩ => ⟨S4x8192x16, .f32⟩
  | .hbm, ⟨71, _⟩ => ⟨S_, .f32⟩
  | .hbm, ⟨72, _⟩ => ⟨S4x8192, .f32⟩
  | .hbm, ⟨73, _⟩ => ⟨S_, .f32⟩
  | .hbm, ⟨74, _⟩ => ⟨S4x8192, .f32⟩
  | .hbm, ⟨75, _⟩ => ⟨S4x8192, .f32⟩
  | .hbm, ⟨76, _⟩ => ⟨S_, .f32⟩
  | .hbm, ⟨77, _⟩ => ⟨S4, .f32⟩
  | .hbm, ⟨78, _⟩ => ⟨S_, .f32⟩
  | .hbm, ⟨79, _⟩ => ⟨S4, .f32⟩
  | .hbm, ⟨80, _⟩ => ⟨S4, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S1x1, .f32⟩
  | _, _ => ⟨S1x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v12 : Ref sig .tc := ⟨.hbm, 20, rfl⟩
abbrev main_v13 : Ref sig .tc := ⟨.hbm, 21, rfl⟩
abbrev main_values : Ref sig .tc := ⟨.hbm, 22, rfl⟩
abbrev main_indices : Ref sig .tc := ⟨.hbm, 23, rfl⟩
abbrev main_v14 : Ref sig .tc := ⟨.hbm, 24, rfl⟩
abbrev main_v15 : Ref sig .tc := ⟨.hbm, 25, rfl⟩
abbrev main_c_1 : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_call1_v0 : Ref sig .tc := ⟨.hbm, 30, rfl⟩
abbrev main_call1_v1 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_call2_v0 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_cst_8 : Ref sig .tc := ⟨.hbm, 59, rfl⟩
abbrev main_call3_v0 : Ref sig .tc := ⟨.hbm, 60, rfl⟩
abbrev main_call3_v1 : Ref sig .tc := ⟨.hbm, 61, rfl⟩
abbrev main_v39 : Ref sig .tc := ⟨.hbm, 62, rfl⟩
abbrev main_cst_9 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_10 : Ref sig .tc := ⟨.hbm, 67, rfl⟩
abbrev main_call4_v0 : Ref sig .tc := ⟨.hbm, 68, rfl⟩
abbrev main_call4_v1 : Ref sig .tc := ⟨.hbm, 69, rfl⟩
abbrev main_v43 : Ref sig .tc := ⟨.hbm, 70, rfl⟩
abbrev main_cst_11 : Ref sig .tc := ⟨.hbm, 71, rfl⟩
abbrev main_v44 : Ref sig .tc := ⟨.hbm, 72, rfl⟩
abbrev main_cst_12 : Ref sig .tc := ⟨.hbm, 73, rfl⟩
abbrev main_v45 : Ref sig .tc := ⟨.hbm, 74, rfl⟩
abbrev main_v46 : Ref sig .tc := ⟨.hbm, 75, rfl⟩
abbrev main_cst_13 : Ref sig .tc := ⟨.hbm, 76, rfl⟩
abbrev main_v47 : Ref sig .tc := ⟨.hbm, 77, rfl⟩
abbrev main_cst_14 : Ref sig .tc := ⟨.hbm, 78, rfl⟩
abbrev main_v48 : Ref sig .tc := ⟨.hbm, 79, rfl⟩
abbrev main_v49 : Ref sig .tc := ⟨.hbm, 80, rfl⟩
abbrev main_cst_15 : Ref sig .tc := ⟨.hbm, 81, rfl⟩
abbrev main_v50 : Ref sig .tc := ⟨.hbm, 82, rfl⟩
abbrev main_cst_16 : Ref sig .tc := ⟨.hbm, 83, rfl⟩
abbrev main_v51 : Ref sig .tc := ⟨.hbm, 84, rfl⟩
abbrev main_v52 : Ref sig .tc := ⟨.hbm, 85, rfl⟩

abbrev nD : Nat := 1
abbrev τ : Topo := Topo.v7x

variable {F : FTy → Type} [FloatOps F]
-- ==== Proof.Spec.lean ====
/-
  THE MATHEMATICS of the loss, over the reals, one row at a time. A row has a set of points (those in its ball) and a
  number at every point (the sum of the four flows' distances to the row's). `rank` counts the ball's points before a
  point; a row's term is the sum of the numbers at the ball's first sixteen points, the number at the very first counted
  again for every one missing to sixteen (`rowSum`).
-/
module

public import Mathlib.Algebra.BigOperators.Group.Finset.Basic
public import Mathlib.Algebra.BigOperators.Fin
public import Mathlib.Algebra.BigOperators.Intervals
public import Idealize.ShloMosaic.PureOps.Ideal

@[expose] public section

noncomputable section

namespace Cert.Ball

open Idealize.ShloMosaic
open scoped Classical
open Finset

/-- The squared distance of two points. -/
def sqd (X : ℕ → Fin 3 → ℝ) (i j : ℕ) : ℝ := ∑ a, (X i a - X j a) ^ 2

theorem sqd_nonneg (X : ℕ → Fin 3 → ℝ) (i j : ℕ) : 0 ≤ sqd X i j := sum_nonneg fun _ _ => sq_nonneg _

theorem sqd_self (X : ℕ → Fin 3 → ℝ) (i : ℕ) : sqd X i i = 0 := by simp [sqd]

/-- The squared radius of the balls: the number both programs compare with. -/
def radius2 : ℝ := (Ideal.ofBits .f32 0x3C23D70A#32).toReal

/-- The guard of the kernel's norm. -/
def guard : ℝ := (Ideal.ofBits .f32 0x2B8CBCCC#32).toReal

/-- Point `j` lies in the ball about point `i`. -/
def near (X : ℕ → Fin 3 → ℝ) (i j : ℕ) : Prop := sqd X i j < radius2

/-- The distances of the flows at `i` and `j`, added over the four frames. -/
def norms (Y : Fin 4 → ℕ → Fin 3 → ℝ) (i j : ℕ) : ℝ :=
  √(sqd (Y 0) i j) + √(sqd (Y 1) i j) + √(sqd (Y 2) i j) + √(sqd (Y 3) i j)

section row
variable (p : ℕ → Prop) (g : ℕ → ℝ)

/-- How many points of the set come before `j`. -/
def rank (j : ℕ) : ℕ := #{i ∈ range j | p i}

/-- The numbers at the set's first sixteen points, summed over the points before `n`. -/
def firstSum (n : ℕ) : ℝ := ∑ j ∈ range n, if p j ∧ rank p j < 16 then g j else 0

/-- The number at the set's first point, if it comes before `n`. -/
def firstAt (n : ℕ) : ℝ := ∑ j ∈ range n, if p j ∧ rank p j = 0 then g j else 0

/-- A row's term. -/
def rowSum : ℝ := firstSum p g 8192 + (16 - min (rank p 8192 : ℝ) 16) * firstAt p g 8192

theorem rank_add (n l : ℕ) : (rank p (n + l) : ℝ) = rank p n + ∑ x ∈ range l, if p (n + x) then (1 : ℝ) else 0 := by
  simp only [rank, card_filter, sum_range_add, Nat.cast_add, Nat.cast_sum, Nat.cast_ite, Nat.cast_one, Nat.cast_zero]

theorem firstSum_add (n l : ℕ) : firstSum p g (n + l)
    = firstSum p g n + ∑ x ∈ range l, if p (n + x) ∧ rank p (n + x) < 16 then g (n + x) else 0 := by
  simp only [firstSum, sum_range_add]

theorem firstAt_add (n l : ℕ) : firstAt p g (n + l)
    = firstAt p g n + ∑ x ∈ range l, if p (n + x) ∧ rank p (n + x) = 0 then g (n + x) else 0 := by
  simp only [firstAt, sum_range_add]

end row

/-- At the first sixteen points of the ball about `i`, the flows agree with the flow at `i` or are the guard apart. -/
def Apart (X : ℕ → Fin 3 → ℝ) (Y : Fin 4 → ℕ → Fin 3 → ℝ) : Prop :=
  ∀ s (i j : Fin 8192), near X i j → rank (near X i) j < 16 → sqd (Y s) i j = 0 ∨ guard ≤ sqd (Y s) i j

theorem radius2_bits : Ideal.ofBits .f32 0x3C23D70A#32 = ((10737418 * (2 ^ 30)⁻¹ : ℝ) : EReal) := by
  simp [Ideal.ofBits, Ideal.ieee]

theorem guard_bits : Ideal.ofBits .f32 0x2B8CBCCC#32 = ((9223372 * (2 ^ 63)⁻¹ : ℝ) : EReal) := by
  simp [Ideal.ofBits, Ideal.ieee]

theorem radius2_coe : Ideal.ofBits .f32 0x3C23D70A#32 = ((radius2 : ℝ) : EReal) := by
  unfold radius2
  rw [radius2_bits, EReal.toReal_coe]

theorem guard_coe : Ideal.ofBits .f32 0x2B8CBCCC#32 = ((guard : ℝ) : EReal) := by
  unfold guard
  rw [guard_bits, EReal.toReal_coe]

theorem radius2_pos : 0 < radius2 := by
  unfold radius2
  rw [radius2_bits, EReal.toReal_coe]
  positivity

theorem guard_pos : 0 < guard := by
  unfold guard
  rw [guard_bits, EReal.toReal_coe]
  positivity

/-- A point lies in its own ball. -/
theorem near_self (X : ℕ → Fin 3 → ℝ) (i : ℕ) : near X i i := by
  unfold near
  rw [sqd_self]
  exact radius2_pos

end Cert.Ball

end
-- ==== Proof.Selection.lean ====
/-
  THE SELECTION of the first sixteen, over the natural numbers: sort the points by a key that is the point's own number
  inside the set and `n` outside it, take the first sixteen keys, and put the very first key for every `n` among them. The
  points picked so, each with a number `g`, sum to what the counting form of `Spec.lean` says: the numbers at the points of
  rank below sixteen, and the first point's number once for each one missing.
-/
module

public import proofs.«01_k».proof.Proof.Spec
public import Mathlib.Order.Interval.Finset.Fin

@[expose] public section

noncomputable section

namespace Cert.Ball

open scoped Classical
open Finset

section
variable (p : ℕ → Prop) (g : ℕ → ℝ) (n : ℕ)

/-- A point's key: its number inside the set, `n` outside. -/
def key (j : ℕ) : ℕ := if p j then j else n

variable {p n} (σ : Fin n → Fin n) (hσ : Function.Injective σ) (hmono : ∀ a b, a < b → key p n (σ a) ≤ key p n (σ b))
include hσ hmono

/-- Before a position holding a point of the set stand exactly the set's smaller points. -/
theorem filter_eq_image (a : Fin n) (ha : p (σ a)) :
    {i ∈ range (σ a).val | p i} = (Iio a).image fun b => (σ b).val := by
  ext i
  simp only [mem_filter, mem_range, mem_image, mem_Iio]
  constructor
  · rintro ⟨hi, hp⟩
    obtain ⟨b, hb⟩ := Finite.surjective_of_injective hσ ⟨i, hi.trans (σ a).isLt⟩
    have hbi : (σ b).val = i := congrArg Fin.val hb
    refine ⟨b, ?_, hbi⟩
    by_contra hlt
    have h := hmono a b (lt_of_le_of_ne (not_lt.mp hlt) fun e => by rw [e, hbi] at hi; exact lt_irrefl _ hi)
    rw [key, key, if_pos ha, if_pos (hbi ▸ hp), hbi] at h
    omega
  · rintro ⟨b, hb, rfl⟩
    have h := hmono b a hb
    rw [key, key, if_pos ha] at h
    have hlt := (σ a).isLt
    by_cases hp : p (σ b)
    · rw [if_pos hp] at h
      exact ⟨lt_of_le_of_ne h fun e => hb.ne (hσ (Fin.ext e)), hp⟩
    · rw [if_neg hp] at h
      omega

omit hmono in
/-- As many points stand before a position as the position says. -/
theorem card_positions (a : Fin n) : #((Iio a).image fun b => (σ b).val) = a := by
  rw [card_image_of_injective _ fun b c h => hσ (Fin.ext h), Fin.card_Iio]

/-- A point of the set stands at its rank. -/
theorem rank_eq (a : Fin n) (ha : p (σ a)) : rank p (σ a) = a := by
  unfold rank
  rw [filter_eq_image σ hσ hmono a ha, card_positions σ hσ]

/-- The set's points stand first. -/
theorem mem_iff (a : Fin n) : p (σ a) ↔ a.val < rank p n := by
  constructor
  · intro ha
    rw [← rank_eq σ hσ hmono a ha]
    refine card_lt_card ((ssubset_iff_of_subset fun i hi => ?_).mpr ⟨(σ a).val, ?_, ?_⟩)
    · rw [mem_filter, mem_range] at hi ⊢
      exact ⟨hi.1.trans (σ a).isLt, hi.2⟩
    · exact mem_filter.mpr ⟨mem_range.mpr (σ a).isLt, ha⟩
    · simp
  · intro h
    by_contra ha
    refine absurd h (not_lt.mpr ?_)
    have hsub : {i ∈ range n | p i} ⊆ (Iio a).image fun b => (σ b).val := by
      intro i hi
      rw [mem_filter, mem_range] at hi
      obtain ⟨b, hb⟩ := Finite.surjective_of_injective hσ ⟨i, hi.1⟩
      have hbi : (σ b).val = i := congrArg Fin.val hb
      refine mem_image.mpr ⟨b, mem_Iio.mpr ?_, hbi⟩
      by_contra hlt
      have hpb : p (σ b) := hbi ▸ hi.2
      have h := hmono a b (lt_of_le_of_ne (not_lt.mp hlt) fun e => ha (e ▸ hpb))
      rw [key, key, if_neg ha, if_pos hpb] at h
      exact absurd (σ b).isLt (not_lt.mpr h)
    have := card_le_card hsub
    rwa [card_positions σ hσ] at this

/-- A point of the set of rank below sixteen stands among the first sixteen. -/
theorem exists_place (hn : 16 ≤ n) (j : Fin n) (hp : p j) (h : rank p j < 16) : ∃ a : Fin 16, σ (a.castLE hn) = j := by
  obtain ⟨b, rfl⟩ := Finite.surjective_of_injective hσ j
  rw [rank_eq σ hσ hmono b hp] at h
  exact ⟨⟨b.val, h⟩, rfl⟩

omit hmono in
/-- A sum over the points is a sum over the positions. -/
theorem sum_positions (f : ℕ → ℝ) : ∑ j ∈ range n, f j = ∑ a : Fin n, f (σ a) := by
  rw [← Fin.sum_univ_eq_sum_range]
  exact (Equiv.sum_comp (Equiv.ofBijective σ (Finite.injective_iff_bijective.mp hσ)) fun j : Fin n => f j).symm

variable (hn : 16 ≤ n)

/-- The first sixteen keys, the first for every `n`: their numbers' sum, by counting. -/
theorem selection (j : ℕ) (hj : j < n) (hp : p j) (idx : Fin 16 → ℕ)
    (hidx : ∀ a, idx a = if key p n (σ (a.castLE hn)) = n then key p n (σ ((0 : Fin 16).castLE hn)) else key p n (σ (a.castLE hn))) :
    ∑ a, g (idx a) = firstSum p g n + (16 - min (rank p n : ℝ) 16) * firstAt p g n := by
  have hpos : 0 < rank p n := card_pos.mpr ⟨j, mem_filter.mpr ⟨mem_range.mpr hj, hp⟩⟩
  set z : Fin n := (0 : Fin 16).castLE hn with hz
  have hpz : p (σ z) := (mem_iff σ hσ hmono z).mpr hpos
  have hsum : firstSum p g n = ∑ a : Fin 16, if a.val < rank p n then g (σ (a.castLE hn)) else 0 := by
    unfold firstSum
    rw [sum_positions σ hσ]
    have hterm : ∀ a : Fin n, (if p (σ a) ∧ rank p (σ a) < 16 then g (σ a) else 0)
        = if a.val < 16 then (if a.val < rank p n then g (σ a) else 0) else 0 := fun a => by
      by_cases ha : p (σ a)
      · simp only [ha, rank_eq σ hσ hmono a ha, true_and, (mem_iff σ hσ hmono a).mp ha, if_true]
      · have := mt (mem_iff σ hσ hmono a).mpr ha
        simp only [ha, this, false_and, if_false, ite_self]
    rw [sum_congr rfl fun a _ => hterm a, ← sum_filter]
    refine (sum_bij (fun (a : Fin 16) _ => a.castLE hn) (fun a _ => ?_) (fun a _ b _ h => ?_) (fun b hb => ?_) fun a _ => rfl).symm
    · exact mem_filter.mpr ⟨mem_univ _, a.isLt⟩
    · exact Fin.castLE_injective hn h
    · exact ⟨⟨b.val, (mem_filter.mp hb).2⟩, mem_univ _, rfl⟩
  have hfirst : firstAt p g n = g (σ z) := by
    unfold firstAt
    rw [sum_positions σ hσ]
    have hterm : ∀ a : Fin n, (if p (σ a) ∧ rank p (σ a) = 0 then g (σ a) else 0) = if a = z then g (σ a) else 0 := fun a => by
      by_cases ha : p (σ a)
      · simp only [ha, rank_eq σ hσ hmono a ha, true_and]
        congr 1
        exact propext ⟨fun h => Fin.ext h, fun h => congrArg Fin.val h⟩
      · have hne : a ≠ z := fun e => ha (e ▸ hpz)
        simp only [ha, hne, false_and, if_false]
    rw [sum_congr rfl fun a _ => hterm a, sum_ite_eq' univ z, if_pos (mem_univ _)]
  have hpick : ∀ a : Fin 16, g (idx a) = (if a.val < rank p n then g (σ (a.castLE hn)) else 0)
      + (1 - if a.val < rank p n then (1 : ℝ) else 0) * g (σ z) := fun a => by
    have hiff := mem_iff σ hσ hmono (a.castLE hn)
    have hval : (a.castLE hn).val = a.val := rfl
    rw [hidx a, key, key, if_pos hpz]
    by_cases h : a.val < rank p n
    · have hpa := hiff.mpr h
      rw [if_pos hpa, if_neg (σ (a.castLE hn)).isLt.ne, if_pos h, if_pos h]
      ring
    · have hpa := mt hiff.mp h
      rw [if_neg hpa, if_pos rfl, if_neg h, if_neg h]
      ring
  have hcount : ∑ a : Fin 16, (if a.val < rank p n then (1 : ℝ) else 0) = min (rank p n : ℝ) 16 := by
    rw [Fin.sum_univ_eq_sum_range (fun a => if a < rank p n then (1 : ℝ) else 0) 16, sum_boole]
    have hf : {x ∈ range 16 | x < rank p n} = range (min (rank p n) 16) := by
      ext x
      simp only [mem_filter, mem_range, lt_min_iff]
      exact and_comm
    rw [hf, card_range, Nat.cast_min, Nat.cast_ofNat]
  rw [sum_congr rfl fun a _ => hpick a, sum_add_distrib, ← hsum, ← sum_mul, sum_sub_distrib, hcount, hfirst]
  simp

end

end Cert.Ball

end
-- ==== Proof.RefValue.lean ====
/-
  THE REFERENCE'S RESULT, over the reals. Its keys are the points' numbers inside a ball and 8192 outside, negated and
  sorted downwards; the first sixteen of a row, with the first for every 8192 among them, name the points whose flows the
  gather reads (`pick`), and the result is the mean of the flows' distances there (`result_eq`), which the selection of
  `Selection.lean` turns into the rows' terms.
-/
module

public import proofs.«01_k».proof.Proof.Selection
public import proofs.«01_k».proof.Proof.Gen.ReferenceIdeal.Run
public import Idealize.ShloMosaic.Lib.Pointwise
public import Idealize.ShloMosaic.Lib.WordCmp
public import Idealize.ShloMosaic.Lib.SortFacts

@[expose] public section

set_option maxRecDepth 16384

noncomputable section

namespace Cert.ReferenceIdeal.Ball

open Cert.ReferenceIdeal Cert.ReferenceIdeal.Gen Cert.ReferenceIdeal.Value Idealize.ShloMosaic Idealize.ShloMosaic.TcCoe Idealize.SL.Sem Idealize.ShloMosaic.StableHlo Cert.Ball
open scoped Classical
open Finset (range)

/-! ## Numbers and words -/

/-- A finite sum of reals, read in the extended reals. -/
theorem coe_sum {ι : Type} (s : Finset ι) (f : ι → ℝ) : ((∑ i ∈ s, f i : ℝ) : EReal) = ∑ i ∈ s, (f i : EReal) := by
  induction s using Finset.induction_on with
  | empty => simp
  | insert a s ha ih => rw [Finset.sum_insert ha, Finset.sum_insert ha, EReal.coe_add, ih]

/-- A key's word, negated, reads as the negated key. -/
theorem toInt_neg_ofNat (a : ℕ) (ha : a ≤ 8192) : (-(BitVec.ofNat 32 a)).toInt = -(a : ℤ) := by
  have h1 : (BitVec.ofNat 32 a).toNat = a := by rw [BitVec.toNat_ofNat]; omega
  rw [BitVec.toInt_eq_toNat_cond, BitVec.toNat_neg, h1]
  split <;> omega

/-- Sorting negated keys downwards sorts the keys upwards. -/
theorem sgt_neg (a b : ℕ) (ha : a ≤ 8192) (hb : b ≤ 8192) :
    (IntOp.cmpi .sgt (-(BitVec.ofNat 32 a)) (-(BitVec.ofNat 32 b)) == 1#1) = decide (a < b) := by
  rw [show IntOp.cmpi .sgt (-(BitVec.ofNat 32 a)) (-(BitVec.ofNat 32 b))
    = BitVec.ofBool (decide ((-(BitVec.ofNat 32 b)).toInt < (-(BitVec.ofNat 32 a)).toInt)) from rfl,
    toInt_neg_ofNat a ha, toInt_neg_ofNat b hb]
  by_cases h : a < b
  · simp [h]
  · simp [h]

theorem key_le (p : ℕ → Prop) (j : Fin 8192) : key p 8192 j ≤ 8192 := by
  unfold key
  split
  · exact j.isLt.le
  · exact le_rfl

/-! ## The keys, sorted -/

/-- A square block's index with its last coordinate replaced. -/
theorem along_apply {N : ℕ} (i o c : Fin N) : Shape.Idx.along (s := ⟨3, ![1, N, N]⟩) (ix3 0 i o) (2 : Fin 3) c = ix3 0 i c := by
  funext b
  match b with
  | ⟨0, _⟩ => rfl
  | ⟨1, _⟩ => rfl
  | ⟨2, _⟩ => rfl

/-- A row sorted downwards, at an index. -/
theorem sorted_apply {N : ℕ} (x y : IVec ⟨3, ![1, N, N]⟩ 32) (i o : Fin N) :
    (Host.sort2 ⟨3, ![1, N, N]⟩ 2 (fun l r => IntOp.cmpi .sgt l.1 r.1) x y).1 (ix3 0 i o)
      = x (ix3 0 i (sortedFrom (fun k k' => IntOp.cmpi .sgt (x (ix3 0 i k)) (x (ix3 0 i k')) == 1#1) o)) := by
  unfold Host.sort2
  rw [dif_pos (show 2 < (⟨3, ![1, N, N]⟩ : Shape).rank from Nat.lt_succ_self 2)]
  refine (congrArg x (along_apply i o _)).trans ?_
  refine congrArg (fun f => x (ix3 0 i (sortedFrom f o))) ?_
  funext c c'
  exact congrArg₂ (fun u v => IntOp.cmpi .sgt (x u) (x v) == 1#1) (along_apply i o c) (along_apply i o c')

/-- The greatest of each row, sorted downwards, at an index. -/
theorem top_apply {N K : ℕ} (x : IVec ⟨3, ![1, N, N]⟩ 32) (h : (⟨3, ![1, N, N]⟩ : Shape).Slices (fun _ => 0) ⟨3, ![1, N, K]⟩)
    (hK : K ≤ N) (i : Fin N) (k : Fin K) :
    (Host.topK ⟨3, ![1, N, K]⟩ 2 (IntOp.cmpi .sgt) x h).1 (ix3 0 i k)
      = x (ix3 0 i (sortedFrom (fun k k' => IntOp.cmpi .sgt (x (ix3 0 i k)) (x (ix3 0 i k')) == 1#1) (k.castLE hK))) := by
  refine Eq.trans (congrArg (Host.sort2 ⟨3, ![1, N, N]⟩ 2 (fun l r => IntOp.cmpi .sgt l.1 r.1) x
    (fun j => if hd : 2 < (⟨3, ![1, N, N]⟩ : Shape).rank then iotaInDim ⟨3, ![1, N, N]⟩ 32 ⟨2, hd⟩ j else 0#32)).1 ?_)
    (sorted_apply x _ i (k.castLE hK))
  funext b
  apply Fin.ext
  match b with
  | ⟨0, _⟩ => rfl
  | ⟨1, _⟩ => exact Nat.zero_add _
  | ⟨2, _⟩ => exact Nat.zero_add _

section
variable (V0 : Valuation τ sig (Elt Ideal)) (X : ℕ → Fin 3 → ℝ) (Y : Fin 4 → ℕ → Fin 3 → ℝ)

/-- The first argument, as the reference reads it. -/
abbrev arg0 : Vec Ideal S1x8192x3 .f32 := V0 (Proc.devRef .tc main_arg0)

/-- The second argument. -/
abbrev arg1 : Vec Ideal S4x8192x3 .f32 := V0 (Proc.devRef .tc main_arg1)

/-- The first argument holds the points `X`. -/
def HoldsX : Prop := ∀ (i : Fin 8192) k, arg0 V0 (ix3 0 i k) = ((X i.val k : ℝ) : EReal)

/-- The second argument holds the flows `Y`. -/
def HoldsY : Prop := ∀ s (i : Fin 8192) k, arg1 V0 (ix3 s i k) = ((Y s i.val k : ℝ) : EReal)

/-- The negated keys. -/
abbrev keys : IVec S1x8192x8192 32 := res_main_v13 V0

/-- The keys of the first sixteen. -/
abbrev firsts : IVec S1x8192x16 32 := res_main_v14 V0

/-- The points picked, per frame. -/
abbrev picks : IVec S4x8192x16 32 := res_main_v24 V0

variable {V0 X Y}

theorem keys_apply (hX : HoldsX V0 X) (i j : Fin 8192) : keys V0 (ix3 0 i j) = -(BitVec.ofNat 32 (key (near X i) 8192 j)) := by
  unfold keys
  pointwise [res_main_v13, res_main_v5]
  have h : ∑ x, (arg0 V0 (ix3 0 i x) - arg0 V0 (ix3 0 j x)) * (arg0 V0 (ix3 0 i x) - arg0 V0 (ix3 0 j x))
      = ((sqd X i j : ℝ) : EReal) := by
    unfold sqd
    rw [coe_sum]
    refine Finset.sum_congr rfl fun x _ => ?_
    rw [hX i x, hX j x, ← EReal.coe_sub, ← EReal.coe_mul, sq]
  congr 1
  rw [radius2_coe]
  unfold key near
  by_cases hn : sqd X i j < radius2
  · rw [if_pos hn, if_pos (by rw [← EReal.coe_lt_coe_iff, ← h] at hn; exact hn)]
  · rw [if_neg hn, if_neg (by rw [← EReal.coe_lt_coe_iff, ← h] at hn; exact hn)]
    rfl

/-- The order the sort puts row `i`'s points in. -/
def order (V0 : Valuation τ sig (Elt Ideal)) (i : Fin 8192) : Fin 8192 → Fin 8192 :=
  sortedFrom fun k k' => IntOp.cmpi .sgt (keys V0 (ix3 0 i k)) (keys V0 (ix3 0 i k')) == 1#1

theorem order_injective (i : Fin 8192) : Function.Injective (order V0 i) := sortedFrom_injective _

theorem order_mono (hX : HoldsX V0 X) (i : Fin 8192) (a b : Fin 8192) (hab : a < b) :
    key (near X i) 8192 (order V0 i a) ≤ key (near X i) 8192 (order V0 i b) := by
  have hR : (fun k k' => IntOp.cmpi .sgt (keys V0 (ix3 0 i k)) (keys V0 (ix3 0 i k')) == 1#1)
      = fun k k' : Fin 8192 => decide (key (near X i) 8192 k < key (near X i) 8192 k') := by
    funext k k'
    rw [keys_apply hX, keys_apply hX, sgt_neg _ _ (key_le _ k) (key_le _ k')]
  unfold order
  rw [hR]
  have h := sortedFrom_noInversion (fun k k' : Fin 8192 => decide (key (near X i) 8192 k < key (near X i) 8192 k'))
    (fun k k' : Fin 8192 => decide (key (near X i) 8192 k < key (near X i) 8192 k'))
    (fun k k' h => by simp only [decide_eq_true_eq, decide_eq_false_iff_not] at h ⊢; omega)
    (fun _ _ h => h)
    (fun k k' k'' h h' => by simp only [decide_eq_false_iff_not] at h h' ⊢; omega) a b hab
  exact not_lt.mp (of_decide_eq_false h)

theorem firsts_apply (hX : HoldsX V0 X) (i : Fin 8192) (k : Fin 16) :
    firsts V0 (ix3 0 i k) = BitVec.ofNat 32 (key (near X i) 8192 (order V0 i (k.castLE (by decide : 16 ≤ 8192)))) := by
  unfold firsts
  pointwise [res_main_v14]
  have h : (Host.topK S1x8192x16 2 (IntOp.cmpi .sgt) (keys V0) sliceFits_S1x8192x8192_S1x8192x16).1 (ix3 0 i k)
      = keys V0 (ix3 0 i (order V0 i (k.castLE (by decide : 16 ≤ 8192)))) := by
    exact top_apply _ _ (by decide) i k
  refine (congrArg (fun w : BitVec 32 => -w) (h.trans (keys_apply hX i _))).trans ?_
  exact BitVec.neg_neg

/-- The point picked at place `k` for row `i`. -/
def pick (V0 : Valuation τ sig (Elt Ideal)) (X : ℕ → Fin 3 → ℝ) (i : Fin 8192) (k : Fin 16) : ℕ :=
  if key (near X i) 8192 (order V0 i (k.castLE (by decide : 16 ≤ 8192))) = 8192 then key (near X i) 8192 (order V0 i ((0 : Fin 16).castLE (by decide : 16 ≤ 8192)))
    else key (near X i) 8192 (order V0 i (k.castLE (by decide : 16 ≤ 8192)))

/-- A point of the ball stands first. -/
theorem first_lt (hX : HoldsX V0 X) (i : Fin 8192) : key (near X i) 8192 (order V0 i ((0 : Fin 16).castLE (by decide : 16 ≤ 8192))) < 8192 := by
  have h := (mem_iff (order V0 i) (order_injective i) (order_mono hX i) ((0 : Fin 16).castLE (by decide : 16 ≤ 8192))).mpr
    (Finset.card_pos.mpr ⟨i.val, Finset.mem_filter.mpr ⟨Finset.mem_range.mpr i.isLt, near_self X i⟩⟩)
  rw [key, if_pos h]
  exact Fin.isLt _

theorem pick_lt (hX : HoldsX V0 X) (i : Fin 8192) (k : Fin 16) : pick V0 X i k < 8192 := by
  unfold pick
  split
  · exact first_lt hX i
  · rename_i h
    exact lt_of_le_of_ne (key_le _ _) h

/-- The first sixteen of the ball are all picked. -/
theorem exists_pick (hX : HoldsX V0 X) (i j : Fin 8192) (hn : near X i j) (h : rank (near X i) j < 16) :
    ∃ k, pick V0 X i k = j := by
  obtain ⟨k, hk⟩ := exists_place (order V0 i) (order_injective i) (order_mono hX i) (by decide : 16 ≤ 8192) j hn h
  refine ⟨k, ?_⟩
  unfold pick
  rw [hk, key, if_pos hn, if_neg j.isLt.ne]

theorem ofNat_eq_8192 (a : ℕ) (ha : a ≤ 8192) : IntOp.cmpi .eq (BitVec.ofNat 32 a) 8192#32 = BitVec.ofBool (decide (a = 8192)) := by
  show BitVec.ofBool (BitVec.ofNat 32 a == 8192#32) = _
  congr 1
  rw [Bool.eq_iff_iff, beq_iff_eq, decide_eq_true_eq, ← BitVec.toNat_inj]
  simp only [BitVec.toNat_ofNat]
  omega

theorem picks_apply (hX : HoldsX V0 X) (s : Fin 4) (i : Fin 8192) (k : Fin 16) :
    picks V0 (ix3 s i k) = BitVec.ofNat 32 (pick V0 X i k) := by
  unfold picks
  pointwise [res_main_v24, res_main_v15]
  have h0 := firsts_apply hX i 0
  have hk := firsts_apply hX i k
  unfold firsts at h0 hk
  rw [h0, hk, ofNat_eq_8192 _ (key_le _ _), ofNat_eq_8192 _ (key_le _ _), decide_eq_false (first_lt hX i).ne]
  unfold pick
  by_cases h : key (near X i) 8192 (order V0 i (k.castLE (by decide : 16 ≤ 8192))) = 8192
  · rw [if_pos h, decide_eq_true h]
    rfl
  · rw [if_neg h, decide_eq_false h]
    rfl

/-! ## The gather -/

/-- The gather's axes. -/
abbrev gatherD := gather_S4x3x8192_S4x8192x16x1_S4x3x8192x16_1_2_0_0_2_3_131

/-- The gather at an index: frame `s`, coordinate `a`, the point the start index names. -/
theorem gather_apply (x : Vec Ideal S4x3x8192 .f32) (idx : IVec S4x8192x16x1 32) (s : Fin 4) (a : Fin 3) (i : Fin 8192) (k : Fin 16) :
    Host.gather gatherD x idx (ix4 s a i k)
      = x (ix3 s a ⟨min (idx (ix4 s i k 0)).toInt.toNat 8191, by omega⟩) := by
  unfold Host.gather
  congr 1
  funext b
  apply Fin.ext
  show gatherD.start (ix4 s a i k) idx b + gatherD.batchCoord (ix4 s a i k) b + gatherD.offCoord (ix4 s a i k) b = _
  have hb : b = 0 ∨ b = 1 ∨ b = 2 := by
    match b with
    | ⟨0, _⟩ => exact Or.inl rfl
    | ⟨1, _⟩ => exact Or.inr (Or.inl rfl)
    | ⟨2, _⟩ => exact Or.inr (Or.inr rfl)
  have m0 : (0 : Fin 3) ∈ gatherD.operandBatchingDims := List.mem_singleton.mpr rfl
  have m1 : (1 : Fin 3) ∈ gatherD.sKept := (GatherDims.mem_sKept _ _).mpr
    ⟨fun h => absurd (List.mem_singleton.mp h) (by decide), fun h => absurd (List.mem_singleton.mp h) (by decide)⟩
  have m2 : (2 : Fin 3) ∈ gatherD.startIndexMap := List.mem_singleton.mpr rfl
  rcases hb with rfl | rfl | rfl
  · rw [GatherDims.start_batching _ _ _ _ m0, GatherDims.offCoord_eq_zero _ _ _ fun h => ((GatherDims.mem_sKept _ _).mp h).2 m0,
      Nat.zero_add, Nat.add_zero]
    unfold GatherDims.batchCoord
    rw [dif_pos m0]
    rfl
  · have n1 : (1 : Fin 3) ∉ gatherD.startIndexMap := fun h => absurd (List.mem_singleton.mp h) (by decide)
    rw [GatherDims.batchCoord_eq_zero _ _ _ fun h => absurd (List.mem_singleton.mp h) (by decide), Nat.add_zero]
    unfold GatherDims.start GatherDims.offCoord
    rw [dif_neg n1, dif_pos m1, Nat.zero_add]
    rfl
  · rw [GatherDims.batchCoord_eq_zero _ _ _ fun h => absurd (List.mem_singleton.mp h) (by decide),
      GatherDims.offCoord_eq_zero _ _ _ fun h => ((GatherDims.mem_sKept _ _).mp h).1 (List.mem_singleton.mpr rfl), Nat.add_zero]
    unfold GatherDims.start
    rw [dif_pos m2]
    have hsi : gatherD.siIdx (ix4 s a i k) ⟨List.idxOf (2 : Fin 3) gatherD.startIndexMap, List.idxOf_lt_length_iff.2 m2⟩ = ix4 s i k 0 := by
      funext c
      apply Fin.ext
      match c with
      | ⟨0, _⟩ => rfl
      | ⟨1, _⟩ => rfl
      | ⟨2, _⟩ => rfl
      | ⟨3, _⟩ => rfl
    rw [hsi]
    rfl

/-- The difference of the flow at row `i` and at its `k`-th pick. -/
theorem diff_apply (hX : HoldsX V0 X) (hY : HoldsY V0 Y) (s : Fin 4) (a : Fin 3) (i : Fin 8192) (k : Fin 16) :
    (res_main_v34 V0 : FVec Ideal S4x3x8192x16 .f32) (ix4 s a i k) = ((Y s i a - Y s (pick V0 X i k) a : ℝ) : EReal) := by
  have hp := pick_lt hX i k
  have hw := picks_apply hX s i k
  have hlt : IntOp.cmpi .slt (picks V0 (ix3 s i k)) 0#32 = 0#1 := by
    rw [hw, show (0#32 : BitVec 32) = BitVec.ofNat 32 0 from rfl, WordCmp.cmpi_slt_ofNat (by omega) (by omega)]
    rfl
  pointwise [res_main_v34, res_main_v0]
  rw [gather_apply]
  pointwise
  have hsel : Scalar.select (IntOp.cmpi .slt (picks V0 (ix3 s i k)) 0#32) (IntOp.addi (picks V0 (ix3 s i k)) 8192#32) (picks V0 (ix3 s i k))
      = BitVec.ofNat 32 (pick V0 X i k) := by
    rw [hlt, hw]
    rfl
  have hf : ∀ h, (⟨min (Scalar.select (IntOp.cmpi .slt (picks V0 (ix3 s i k)) 0#32) (IntOp.addi (picks V0 (ix3 s i k)) 8192#32)
      (picks V0 (ix3 s i k))).toInt.toNat 8191, h⟩ : Fin 8192) = ⟨pick V0 X i k, hp⟩ := by
    intro h
    apply Fin.ext
    show min _ 8191 = pick V0 X i k
    rw [hsel, BitVec.toInt_eq_toNat_cond, BitVec.toNat_ofNat]
    split <;> omega
  refine Eq.trans (congrArg₂ (fun a b : EReal => a - b) (hY s i a) ((congrArg (fun c => arg1 V0 (ix3 s c a)) (hf _)).trans (hY s ⟨_, hp⟩ a))) ?_
  exact (EReal.coe_sub _ _).symm

theorem sq_apply (hX : HoldsX V0 X) (hY : HoldsY V0 Y) (s : Fin 4) (i : Fin 8192) (k : Fin 16) :
    (res_main_v36 V0 : FVec Ideal S4x8192x16 .f32) (ix3 s i k) = ((sqd (Y s) i (pick V0 X i k) : ℝ) : EReal) := by
  have h := coe_sum Finset.univ fun a => (Y s i a - Y s (pick V0 X i k) a) ^ 2
  pointwise [res_main_v36]
  refine Eq.trans ?_ h.symm
  refine Finset.sum_congr (M := EReal) rfl fun a _ => ?_
  rw [sq, EReal.coe_mul]
  exact congrArg₂ (fun a b : EReal => a * b) (diff_apply hX hY s a i k) (diff_apply hX hY s a i k)

/-! ## The mean -/

/-- The result the run ends at, of the sums of squares. -/
def mean (v : FVec Ideal S4x8192x16 .f32) : FVec Ideal S1x1 .f32 :=
  shapeCast _ (Host.divf (Host.reduceAdd (Host.divf (Host.reduceAdd (Host.divf (Host.reduceAdd (select (cmpf .ogt v (broadcastInDim S4x8192x16 ![] bcast_S_S4x8192x16 (constant S_ .f32 0x00000000#32))) (Host.sqrt (select (cmpf .ogt v (broadcastInDim S4x8192x16 ![] bcast_S_S4x8192x16 (constant S_ .f32 0x00000000#32))) v (broadcastInDim S4x8192x16 ![] bcast_S_S4x8192x16 (id (constant S_ .f32 0x3F800000#32))))) (broadcastInDim S4x8192x16 ![] bcast_S_S4x8192x16 (id (constant S_ .f32 0x00000000#32)))) (constant S_ .f32 0x00000000#32) reducesTo_S4x8192x16_S4x8192_d2 h_S_) (broadcastInDim S4x8192 ![] bcast_S_S4x8192 (constant S_ .f32 0x41800000#32))) (constant S_ .f32 0x00000000#32) reducesTo_S4x8192_S4_d1 h_S_) (broadcastInDim S4 ![] bcast_S_S4 (constant S_ .f32 0x46000000#32))) (constant S_ .f32 0x00000000#32) reducesTo_S4_S_d0 h_S_) (constant S_ .f32 0x40800000#32)) shapeCasts_S_S1x1

theorem ofBits_16 : Ideal.ofBits .f32 0x41800000#32 = ((16 : ℝ) : EReal) := by
  simp [Ideal.ofBits, Ideal.ieee]
  rw [← EReal.coe_mul]
  norm_num

theorem ofBits_8192 : Ideal.ofBits .f32 0x46000000#32 = ((8192 : ℝ) : EReal) := by
  simp [Ideal.ofBits, Ideal.ieee]
  rw [← EReal.coe_mul]
  norm_num

theorem ofBits_4 : Ideal.ofBits .f32 0x40800000#32 = ((4 : ℝ) : EReal) := by
  simp [Ideal.ofBits, Ideal.ieee]
  rw [← EReal.coe_mul]
  norm_num

/-- The guarded root of a non-negative number is its root. -/
theorem root_eq (d : ℝ) (hd : 0 ≤ d) (y : EReal) :
    (if 0 < (d : EReal) then Ideal.sqrt (if 0 < (d : EReal) then (d : EReal) else y) else (0 : EReal)) = ((√d : ℝ) : EReal) := by
  rcases hd.eq_or_lt with rfl | h
  · simp
  · have h' : 0 < (d : EReal) := EReal.coe_pos.mpr h
    rw [if_pos h', if_pos h', Ideal.sqrt_coe, if_neg h.le.not_gt]

theorem mean_eq (v : FVec Ideal S4x8192x16 .f32) (d : Fin 4 → Fin 8192 → Fin 16 → ℝ) (hd : ∀ s i k, 0 ≤ d s i k)
    (hv : ∀ s i k, v (ix3 s i k) = ((d s i k : ℝ) : EReal)) :
    mean v (ix2 0 0) = (((∑ i, ∑ k, ∑ s, √(d s i k)) * (2 ^ 19)⁻¹ : ℝ) : EReal) := by
  have h0 : (id (constant (F := Ideal) S_ .f32 0x00000000#32) ix0 : EReal) = 0 := Ideal.ofBits_zero .f32
  pointwise [mean]
  rw [ofBits_16, ofBits_8192, ofBits_4]
  simp only [hv, h0, root_eq _ (hd _ _ _), Ideal.div_coe (by norm_num : (16 : ℝ) ≠ 0), Ideal.div_coe (by norm_num : (8192 : ℝ) ≠ 0),
    Ideal.div_coe (by norm_num : (4 : ℝ) ≠ 0), ← coe_sum, ← EReal.coe_mul]
  congr 1
  rw [← Finset.sum_mul, Finset.sum_congr rfl fun s _ => (Finset.sum_mul _ _ _).symm, ← Finset.sum_mul]
  have hc : ∑ s, ∑ i, ∑ k, √(d s i k) = ∑ i, ∑ k, ∑ s, √(d s i k) := by
    rw [Finset.sum_comm]
    exact Finset.sum_congr rfl fun i _ => Finset.sum_comm
  rw [hc]
  ring

/-- The reference's result: the terms of all 8192 rows, times 2⁻¹⁹. -/
theorem result_eq (hX : HoldsX V0 X) (hY : HoldsY V0 Y) :
    mean (res_main_v36 V0) (ix2 0 0) = (((∑ i ∈ range 8192, rowSum (near X i) (norms Y i)) * (2 ^ 19)⁻¹ : ℝ) : EReal) := by
  rw [mean_eq _ (fun s i k => sqd (Y s) i (pick V0 X i k)) (fun _ _ _ => sqd_nonneg _ _ _) (sq_apply hX hY),
    ← Fin.sum_univ_eq_sum_range (fun i => rowSum (near X i) (norms Y i)) 8192]
  congr 2
  refine Finset.sum_congr rfl fun i _ => ?_
  have h := selection (g := norms Y i) (order V0 i) (order_injective i) (order_mono hX i) (by decide : 16 ≤ 8192) i.val i.isLt
    (near_self X i) (pick V0 X i) (fun _ => rfl)
  unfold rowSum
  rw [← h]
  refine Finset.sum_congr rfl fun k _ => ?_
  rw [Fin.sum_univ_four]
  rfl

end

end Cert.ReferenceIdeal.Ball

end
-- ==== Proof.Args.lean ====
/-
  WHAT THE PRECONDITION SAYS of the argument arrays, over the reals: every coordinate is a real number (`holds_points`,
  `holds_flows`), and at the first sixteen points of a ball the flows are, in each frame, equal to the flow at the ball's
  centre or at least the guard apart from it (`apart`).
-/
module

public import proofs.«01_k».proof.Proof.RefValue
public import proofs.«01_k».proof.Pre_finite_and_apart
public import Idealize.ShloMosaic.Lib.Pointwise
public import Idealize.ShloMosaic.Lib.WordArith

@[expose] public section

set_option maxRecDepth 16384

noncomputable section

namespace Cert.Pre_finite_and_apart.Ball

open Cert.Pre_finite_and_apart Idealize.ShloMosaic Cert.Ball
open scoped Classical

/-- The side conditions of the precondition's operations. -/
instance facts : Facts where
  transposes_S4x8192x3_S4x3x8192_0_2_1 := by decide
  bcast_S1x8192x3_S1x8192x1x3_0_1_3 := by decide
  bcast_S1x8192x3_S1x1x8192x3_0_2_3 := by decide
  bcast_S1x8192x1x3_S1x8192x8192x3_0_1_2_3 := by decide
  bcast_S1x1x8192x3_S1x8192x8192x3_0_1_2_3 := by decide
  reducesTo_S1x8192x8192x3_S1x8192x8192_d3 := by decide
  h_S_ := by decide
  bcast_S_S1x8192x8192 := by decide
  bcast_S8192_S1x1x8192_2 := by decide
  bcast_S1x1x8192_S1x8192x8192_0_1_2 := by decide
  sliceFits_S1x8192x8192_S1x8192x16 := by decide
  slices_S1x8192x16_S1x8192x1_0_0_0 := by decide
  bcast_S_S1x8192x1 := by decide
  bcast_S_S1x8192x16 := by decide
  bcast_S1x8192x1_S1x8192x16_0_1_2 := by decide
  shapeCasts_S1x8192x16_S1x1x1x8192x1x16 := by decide
  bcast_S1x1x1x8192x1x16_S4x1x1x8192x1x16_0_1_2_3_4_5 := by decide
  shapeCasts_S4x1x1x8192x1x16_S4x8192x16 := by decide
  bcast_S4x3x8192_S4x3x8192x1_0_1_2 := by decide
  bcast_S_S4x8192x16 := by decide
  bcast_S4x8192x16_S4x8192x16x1_0_1_2 := by decide
  bcast_S4x3x8192x1_S4x3x8192x16_0_1_2_3 := by decide
  reducesTo_S4x3x8192x16_S4x8192x16_d1 := by decide
  bcast_S_S1x8192x3 := by decide
  bcast_S_S4x8192x3 := by decide
  gather_S4x3x8192_S4x8192x16x1_S4x3x8192x16_1_2_0_0_2_3_131_wf := by decide

variable {x : FVec Ideal S1x8192x3 .f32} {y : FVec Ideal S4x8192x3 .f32}

/-- The points of an array of real coordinates. -/
def points (x : FVec Ideal S1x8192x3 .f32) : ℕ → Fin 3 → ℝ := fun j a => (x (ix3 0 (Fin.ofNat 8192 j) a)).toReal

/-- The flows of an array of real coordinates. -/
def flows (y : FVec Ideal S4x8192x3 .f32) : Fin 4 → ℕ → Fin 3 → ℝ := fun s j a => (y (ix3 s (Fin.ofNat 8192 j) a)).toReal

theorem ofNat_val (i : Fin 8192) : Fin.ofNat 8192 i.val = i := Fin.ext (Nat.mod_eq_of_lt i.isLt)

theorem ofBits_top : Ideal.ofBits .f32 0x7F800000#32 = ⊤ := by
  simp [Ideal.ofBits, Ideal.ieee]

/-- An extended real of finite absolute value is a real. -/
theorem coe_toReal_of_abs (v : EReal) (h : BitVec.ofBool (decide (max v (-v) < Ideal.ofBits .f32 0x7F800000#32)) = 1#1) :
    v = ((v.toReal : ℝ) : EReal) := by
  have h' := of_decide_eq_true ((WordArith.ofBool_eq_one_iff _).mp h)
  rw [ofBits_top, max_lt_iff] at h'
  refine (EReal.coe_toReal h'.1.ne ?_).symm
  rintro rfl
  simp at h'

theorem holds_points (h : (fn x y).1 = fun _ => 1#1) (i : Fin 8192) (k : Fin 3) : x (ix3 0 i k) = ((points x i.val k : ℝ) : EReal) := by
  have e : (fn x y).1 (ix3 0 i k) = BitVec.ofBool (decide (max (x (ix3 0 i k)) (-x (ix3 0 i k)) < Ideal.ofBits .f32 0x7F800000#32)) := by
    unfold fn fn_part1
    pointwise
    rfl
  unfold points
  rw [ofNat_val]
  exact coe_toReal_of_abs _ (e.symm.trans (congrFun h _))

theorem holds_flows (h : (fn x y).2.1 = fun _ => 1#1) (s : Fin 4) (i : Fin 8192) (k : Fin 3) :
    y (ix3 s i k) = ((flows y s i.val k : ℝ) : EReal) := by
  have e : (fn x y).2.1 (ix3 s i k) = BitVec.ofBool (decide (max (y (ix3 s i k)) (-y (ix3 s i k)) < Ideal.ofBits .f32 0x7F800000#32)) := by
    unfold fn fn_part1
    pointwise
    rfl
  unfold flows
  rw [ofNat_val]
  exact coe_toReal_of_abs _ (e.symm.trans (congrFun h _))

/-- The third part, of the squared distances the reference takes the roots of. -/
theorem third_eq (V0 : Valuation Cert.ReferenceIdeal.τ Cert.ReferenceIdeal.sig (Elt Ideal)) :
    (fn (F := Ideal) (ReferenceIdeal.Ball.arg0 V0) (ReferenceIdeal.Ball.arg1 V0)).2.2
      = ori (cmpf (F := Ideal) .oeq (ReferenceIdeal.Value.res_main_v36 V0 : FVec Ideal S4x8192x16 .f32)
            (broadcastInDim S4x8192x16 ![] facts.bcast_S_S4x8192x16 (constant S_ .f32 0x00000000#32)))
          (cmpf (F := Ideal) .oge (ReferenceIdeal.Value.res_main_v36 V0 : FVec Ideal S4x8192x16 .f32)
            (broadcastInDim S4x8192x16 ![] facts.bcast_S_S4x8192x16 (constant S_ .f32 0x2B8CBCCC#32))) := rfl

theorem apart {V0 : Valuation Cert.ReferenceIdeal.τ Cert.ReferenceIdeal.sig (Elt Ideal)} {X : ℕ → Fin 3 → ℝ} {Y : Fin 4 → ℕ → Fin 3 → ℝ}
    (hX : ReferenceIdeal.Ball.HoldsX V0 X) (hY : ReferenceIdeal.Ball.HoldsY V0 Y)
    (h : (fn (F := Ideal) (ReferenceIdeal.Ball.arg0 V0) (ReferenceIdeal.Ball.arg1 V0)).2.2 = fun _ => 1#1) : Apart X Y := by
  intro s i j hn h16
  obtain ⟨k, hk⟩ := ReferenceIdeal.Ball.exists_pick hX i j hn h16
  have hv := ReferenceIdeal.Ball.sq_apply hX hY s i k
  rw [hk] at hv
  have e : (fn (F := Ideal) (ReferenceIdeal.Ball.arg0 V0) (ReferenceIdeal.Ball.arg1 V0)).2.2 (ix3 s i k) = IntOp.ori
      (BitVec.ofBool (decide (((sqd (Y s) i j : ℝ) : EReal) = 0)))
      (BitVec.ofBool (decide (((guard : ℝ) : EReal) ≤ ((sqd (Y s) i j : ℝ) : EReal)))) := by
    rw [third_eq, ← guard_coe, ← hv]
    pointwise
  have h := e.symm.trans (congrFun h _)
  rw [WordArith.ori_ofBool, WordArith.ofBool_eq_one_iff] at h
  simpa only [Bool.or_eq_true, decide_eq_true_eq, EReal.coe_le_coe_iff, EReal.coe_eq_zero] using h

end Cert.Pre_finite_and_apart.Ball

end
-- ==== Proof.Tables.lean ====
/-
  THE FOUR TABLES the kernel's windows read, as the host operations before the launch leave them: for the points and for
  each flow, a row table `[x, |x|², 1, 0, 0, 0]` (one row per point) and a column table `[−2x, 1, |x|², 0, 0, 0]` laid
  out by columns.
-/
module

public import proofs.«01_k».proof.Proof.Gen.KernelIdeal.Frame
public import Idealize.ShloMosaic.Lib.Pointwise
public import Idealize.ShloMosaic.Lib.StableHlo.Run

@[expose] public section

set_option maxRecDepth 16384

noncomputable section

namespace Cert.KernelIdeal.Ball

open Cert.KernelIdeal Cert.KernelIdeal.Gen Idealize.ShloMosaic Idealize.ShloMosaic.TcCoe Idealize.SL.Sem Idealize.ShloMosaic.StableHlo

section generic
variable {F : FTy → Type} [FloatOps F]

/-- The points as one [8192, 3] array. -/
def pts (a : Vec F S1x8192x3 .f32) : Vec F S8192x3 .f32 := shapeCast S8192x3 a shapeCasts_S1x8192x3_S8192x3

/-- The points' squared lengths, as a column. -/
def ptLen (a : Vec F S1x8192x3 .f32) : Vec F S8192x1 .f32 :=
  broadcastInDim S8192x1 ![0] bcast_S8192_S8192x1_0
    (Host.reduceAdd (mulf (pts a) (pts a)) (constant S_ .f32 0x00000000#32) reducesTo_S8192x3_S8192_d1 h_S_)

/-- A column of ones. -/
def ones : Vec F S8192x1 .f32 := broadcastInDim S8192x1 ![] bcast_S_S8192x1 (constant (F := F) S_ .f32 0x3F800000#32)

/-- Three columns of zeros. -/
def zeros : Vec F S8192x3 .f32 := broadcastInDim S8192x3 ![] bcast_S_S8192x3 (constant (F := F) S_ .f32 0x00000000#32)

/-- The points' row table. -/
def ptRowTab (a : Vec F S1x8192x3 .f32) : Vec F S8192x8 .f32 :=
  concatenate S8192x8 1 [⟨S8192x3, pts a⟩, ⟨S8192x1, ptLen a⟩, ⟨S8192x1, ones⟩, ⟨S8192x3, zeros⟩]
    concatenates_S8192x3_S8192x1_S8192x1_S8192x3_S8192x8_d1

/-- The points' column table. -/
def ptColTab (a : Vec F S1x8192x3 .f32) : Vec F S8x8192 .f32 :=
  transpose S8x8192 [1, 0] (concatenate S8192x8 1
    [⟨S8192x3, mulf (broadcastInDim S8192x3 ![] bcast_S_S8192x3 (constant S_ .f32 0xC0000000#32)) (pts a)⟩, ⟨S8192x1, ones⟩,
      ⟨S8192x1, ptLen a⟩, ⟨S8192x3, zeros⟩] concatenates_S8192x3_S8192x1_S8192x1_S8192x3_S8192x8_d1)
    transposes_S8192x8_S8x8192_1_0

/-- The flows' squared lengths. -/
def flLen (f : Vec F S4x8192x3 .f32) : Vec F S4x8192x1 .f32 :=
  broadcastInDim S4x8192x1 ![0, 1] bcast_S4x8192_S4x8192x1_0_1
    (Host.reduceAdd (mulf f f) (constant S_ .f32 0x00000000#32) reducesTo_S4x8192x3_S4x8192_d2 h_S_)

/-- The flows' row tables. -/
def flRowTab (f : Vec F S4x8192x3 .f32) : Vec F S4x8192x8 .f32 :=
  concatenate S4x8192x8 2 [⟨S4x8192x3, f⟩, ⟨S4x8192x1, flLen f⟩,
      ⟨S4x8192x1, broadcastInDim S4x8192x1 ![1, 2] bcast_S8192x1_S4x8192x1_1_2 (ones (F := F))⟩,
      ⟨S4x8192x3, broadcastInDim S4x8192x3 ![1, 2] bcast_S8192x3_S4x8192x3_1_2 (zeros (F := F))⟩]
    concatenates_S4x8192x3_S4x8192x1_S4x8192x1_S4x8192x3_S4x8192x8_d2

/-- The flows' column tables. -/
def flColTab (f : Vec F S4x8192x3 .f32) : Vec F S4x8x8192 .f32 :=
  transpose S4x8x8192 [0, 2, 1] (concatenate S4x8192x8 2
    [⟨S4x8192x3, mulf (broadcastInDim S4x8192x3 ![] bcast_S_S4x8192x3 (constant S_ .f32 0xC0000000#32)) f⟩,
      ⟨S4x8192x1, broadcastInDim S4x8192x1 ![1, 2] bcast_S8192x1_S4x8192x1_1_2 (ones (F := F))⟩, ⟨S4x8192x1, flLen f⟩,
      ⟨S4x8192x3, broadcastInDim S4x8192x3 ![1, 2] bcast_S8192x3_S4x8192x3_1_2 (zeros (F := F))⟩]
    concatenates_S4x8192x3_S4x8192x1_S4x8192x1_S4x8192x3_S4x8192x8_d2)
    transposes_S4x8192x8_S4x8x8192_0_2_1

variable (m : (ℓ : Loc nD τ sig) → Buf (Elt F) ℓ)

set_option maxHeartbeats 2000000 in
/-- The launch finds the points' row table in its first operand … -/
theorem V_v6 (c : Dev nD) : V m c main_v6 = ptRowTab (m ((c : Thread nD τ).loc main_arg0)) := by
  unfold V hostOps0
  after_results_simp
  rfl

set_option maxHeartbeats 2000000 in
/-- … the points' column table in its second … -/
theorem V_v15 (c : Dev nD) : V m c main_v15 = ptColTab (m ((c : Thread nD τ).loc main_arg0)) := by
  unfold V hostOps0
  after_results_simp
  rfl

set_option maxHeartbeats 2000000 in
/-- … the flows' row tables in its third … -/
theorem V_v23 (c : Dev nD) : V m c main_v23 = flRowTab (m ((c : Thread nD τ).loc main_arg1)) := by
  unfold V hostOps0
  after_results_simp
  rfl

set_option maxHeartbeats 2000000 in
/-- … and the flows' column tables in its fourth. -/
theorem V_v34 (c : Dev nD) : V m c main_v34 = flColTab (m ((c : Thread nD τ).loc main_arg1)) := by
  unfold V hostOps0
  after_results_simp
  rfl

end generic

theorem ofBits_neg_two : Ideal.ofBits .f32 0xC0000000#32 = ((-2 : ℝ) : EReal) := by
  simp [Ideal.ofBits, Ideal.ieee]
  rw [← EReal.coe_mul]
  norm_num

/-- A point's row against a point's column is their squared distance: `|x|² − 2 x·y + |y|² = |x − y|²`. -/
theorem ptTab_mul (a : Vec Ideal S1x8192x3 .f32) (X : ℕ → Fin 3 → ℝ)
    (hX : ∀ (i : Fin 8192) k, a (ix3 0 i k) = ((X i.val k : ℝ) : EReal)) (i j : Fin 8192) :
    ∑ e : Fin 8, ptRowTab a (ix2 i e) * ptColTab a (ix2 e j) = ((∑ k, (X i.val k - X j.val k) ^ 2 : ℝ) : EReal) := by
  pointwise [ptRowTab, ptColTab, pts, ptLen, ones, zeros]
  rw [Fin.sum_univ_eight]
  simp [ofBits_neg_two, hX, Fin.sum_univ_three]
  simp only [← EReal.coe_mul, ← EReal.coe_neg, ← EReal.coe_add, ← EReal.coe_sub, ← EReal.coe_pow]
  congr 1
  ring

/-- So in every flow: a point's row against a point's column is the squared distance of their flows. -/
theorem flTab_mul (f : Vec Ideal S4x8192x3 .f32) (Y : Fin 4 → ℕ → Fin 3 → ℝ)
    (hY : ∀ s (i : Fin 8192) k, f (ix3 s i k) = ((Y s i.val k : ℝ) : EReal)) (s : Fin 4) (i j : Fin 8192) :
    ∑ e : Fin 8, flRowTab f (ix3 s i e) * flColTab f (ix3 s e j)
      = ((∑ k, (Y s i.val k - Y s j.val k) ^ 2 : ℝ) : EReal) := by
  pointwise [flRowTab, flColTab, flLen, ones, zeros]
  rw [Fin.sum_univ_eight]
  simp [ofBits_neg_two, hY, Fin.sum_univ_three]
  simp only [← EReal.coe_mul, ← EReal.coe_neg, ← EReal.coe_add, ← EReal.coe_sub, ← EReal.coe_pow]
  congr 1
  ring

section blocks
variable {F : FTy → Type} [FloatOps F]
variable (m : (ℓ : Loc nD τ sig) → Buf (Elt F) ℓ)

theorem N_eq : cfg0.N = 32 := N_0

/-- Row `r` of block `t`, among all rows. -/
def rowOf (t : Fin cfg0.N) (r : Fin 256) : Fin 8192 := ⟨256 * t.val + r.val, by have hN := N_eq; have := t.isLt; omega⟩

/-- Column `l` of round `k`, among all columns. -/
def colOf (k : Fin k0_t1_loop.trips) (l : Fin 256) : Fin 8192 :=
  ⟨256 * k.val + l.val, by have hN : k0_t1_loop.trips = 32 := (by decide +kernel); have := k.isLt; omega⟩

theorem index_0 : ∀ t, win0_0.index t 0 = t.val ∧ win0_0.index t 1 = 0 := by decide +kernel
theorem index_1 : ∀ t, win0_1.index t 0 = 0 ∧ win0_1.index t 1 = 0 := by decide +kernel
theorem index_2 : ∀ t, win0_2.index t 0 = 0 ∧ win0_2.index t 1 = t.val ∧ win0_2.index t 2 = 0 := by decide +kernel
theorem index_3 : ∀ t, win0_3.index t 0 = 0 ∧ win0_3.index t 1 = 0 ∧ win0_3.index t 2 = 0 := by decide +kernel

theorem iblk_0 (c : Dev nD) (t : Fin cfg0.N) (r : Fin 256) (e : Fin 8) :
    (iblk m c 0 t : Vec F S256x8 .f32) (ix2 r e) = ptRowTab (m ((c : Thread nD τ).loc main_arg0)) (ix2 (rowOf t r) e) := by
  have hi := index_0 t
  rw [← V_v6]
  unfold iblk
  rw [View.read_apply]
  show V m c main_v6 _ = V m c main_v6 _
  congr 1
  funext a
  apply Fin.ext
  match a with
  | ⟨0, _⟩ => show win0_0.index t 0 * 256 + 1 * r.val = 256 * t.val + r.val; rw [hi.1]; omega
  | ⟨1, _⟩ => show win0_0.index t 1 * 8 + 1 * e.val = e.val; rw [hi.2]; omega

theorem iblk_1 (c : Dev nD) (t : Fin cfg0.N) (e : Fin 8) (j : Fin 8192) :
    (iblk m c 1 t : Vec F S8x8192 .f32) (ix2 e j) = ptColTab (m ((c : Thread nD τ).loc main_arg0)) (ix2 e j) := by
  have hi := index_1 t
  rw [← V_v15]
  unfold iblk
  rw [View.read_apply]
  show V m c main_v15 _ = V m c main_v15 _
  congr 1
  funext a
  apply Fin.ext
  match a with
  | ⟨0, _⟩ => show win0_1.index t 0 * 8 + 1 * e.val = e.val; rw [hi.1]; omega
  | ⟨1, _⟩ => show win0_1.index t 1 * 8192 + 1 * j.val = j.val; rw [hi.2]; omega

theorem iblk_2 (c : Dev nD) (t : Fin cfg0.N) (s : Fin 4) (r : Fin 256) (e : Fin 8) :
    (iblk m c 2 t : Vec F S4x256x8 .f32) (ix3 s r e)
      = flRowTab (m ((c : Thread nD τ).loc main_arg1)) (ix3 s (rowOf t r) e) := by
  have hi := index_2 t
  rw [← V_v23]
  unfold iblk
  rw [View.read_apply]
  show V m c main_v23 _ = V m c main_v23 _
  congr 1
  funext a
  apply Fin.ext
  match a with
  | ⟨0, _⟩ => show win0_2.index t 0 * 4 + 1 * s.val = s.val; rw [hi.1]; omega
  | ⟨1, _⟩ => show win0_2.index t 1 * 256 + 1 * r.val = 256 * t.val + r.val; rw [hi.2.1]; omega
  | ⟨2, _⟩ => show win0_2.index t 2 * 8 + 1 * e.val = e.val; rw [hi.2.2]; omega

theorem iblk_3 (c : Dev nD) (t : Fin cfg0.N) (s : Fin 4) (e : Fin 8) (j : Fin 8192) :
    (iblk m c 3 t : Vec F S4x8x8192 .f32) (ix3 s e j) = flColTab (m ((c : Thread nD τ).loc main_arg1)) (ix3 s e j) := by
  have hi := index_3 t
  rw [← V_v34]
  unfold iblk
  rw [View.read_apply]
  show V m c main_v34 _ = V m c main_v34 _
  congr 1
  funext a
  apply Fin.ext
  match a with
  | ⟨0, _⟩ => show win0_3.index t 0 * 4 + 1 * s.val = s.val; rw [hi.1]; omega
  | ⟨1, _⟩ => show win0_3.index t 1 * 8 + 1 * e.val = e.val; rw [hi.2.1]; omega
  | ⟨2, _⟩ => show win0_3.index t 2 * 8192 + 1 * j.val = j.val; rw [hi.2.2]; omega

end blocks

end Cert.KernelIdeal.Ball

end
-- ==== Proof.Body.lean ====
/-
  WHAT ONE GRID POINT COMPUTES, read off the generated runs. A point holds 256 query rows (a row table of the points and
  one of each of the four flows) and the column tables of all 8192 points; its loop goes over the columns 256 at a time,
  carrying three numbers per row: how many points of the ball were met, the sum of the norms at the first sixteen of
  them, the norm at the very first. `trip` is one round of that loop, `state` the carried values after some rounds, and
  `out_A`, `out_B` what the body leaves in the result's buffer: the block's sum at the first point, and the sum added to
  what the buffer held at the later ones.
-/
module

public import proofs.«01_k».proof.Proof.Gen.KernelIdeal.Frame
public import Idealize.ShloMosaic.Lib.Tactic
public import Idealize.ShloMosaic.Lib.Pipeline.Value

@[expose] public section

set_option maxRecDepth 16384

noncomputable section

namespace Cert.KernelIdeal.Ball

open Cert.KernelIdeal Cert.KernelIdeal.Gen Idealize.ShloMosaic Idealize.ShloMosaic.TcCoe Idealize.SL.Sem

variable {F : FTy → Type} [FloatOps F]

/-- Round `k`'s 256 columns of the points' column table. -/
def ptCols (x1 : Vec F S8x8192 .f32) (k : Fin k0_t1_loop.trips) : Vec F S8x256 .f32 :=
  View.ld x1 (Rect.unit (k0_off1 k) S8x256.size (k0_off1_inb k))
/-- Round `k`'s 256 columns of the first flow's column table. -/
def flCols0 (x3 : Vec F S4x8x8192 .f32) (k : Fin k0_t1_loop.trips) : Vec F S1x8x256 .f32 :=
  View.ld x3 (Rect.unit (k0_off2 k) S1x8x256.size (k0_off2_inb k))
/-- Round `k`'s 256 columns of the second flow's column table. -/
def flCols1 (x3 : Vec F S4x8x8192 .f32) (k : Fin k0_t1_loop.trips) : Vec F S1x8x256 .f32 :=
  View.ld x3 (Rect.unit (k0_off3 k) S1x8x256.size (k0_off3_inb k))
/-- Round `k`'s 256 columns of the third flow's column table. -/
def flCols2 (x3 : Vec F S4x8x8192 .f32) (k : Fin k0_t1_loop.trips) : Vec F S1x8x256 .f32 :=
  View.ld x3 (Rect.unit (k0_off4 k) S1x8x256.size (k0_off4_inb k))
/-- Round `k`'s 256 columns of the fourth flow's column table. -/
def flCols3 (x3 : Vec F S4x8x8192 .f32) (k : Fin k0_t1_loop.trips) : Vec F S1x8x256 .f32 :=
  View.ld x3 (Rect.unit (k0_off5 k) S1x8x256.size (k0_off5_inb k))

/-- The first flow's 256 rows, as the body loads them. -/
def flRows0 (x2 : Vec F S4x256x8 .f32) : Vec F S1x256x8 .f32 :=
  View.ld x2 (Rect.unit ![0, 0, 0] S1x256x8.size inb_S4x256x8_S1x256x8_0_0_0)
/-- The second flow's rows. -/
def flRows1 (x2 : Vec F S4x256x8 .f32) : Vec F S1x256x8 .f32 :=
  View.ld x2 (Rect.unit ![1, 0, 0] S1x256x8.size inb_S4x256x8_S1x256x8_1_0_0)
/-- The third flow's rows. -/
def flRows2 (x2 : Vec F S4x256x8 .f32) : Vec F S1x256x8 .f32 :=
  View.ld x2 (Rect.unit ![2, 0, 0] S1x256x8.size inb_S4x256x8_S1x256x8_2_0_0)
/-- The fourth flow's rows. -/
def flRows3 (x2 : Vec F S4x256x8 .f32) : Vec F S1x256x8 .f32 :=
  View.ld x2 (Rect.unit ![3, 0, 0] S1x256x8.size inb_S4x256x8_S1x256x8_3_0_0)

/-- The 0/1 mask of round `k`: which of its columns lie in each row's ball. -/
def mask (x0 : Vec F S256x8 .f32) (x1 : Vec F S8x8192 .f32) (k : Fin k0_t1_loop.trips) : IVec S256x256 1 :=
  k0_pay2 (k0_pay8 x0) (ptCols x1 k)

/-- The first two flows' norms in round `k`, added. -/
def norms01 (x2 : Vec F S4x256x8 .f32) (x3 : Vec F S4x8x8192 .f32) (k : Fin k0_t1_loop.trips) : FVec F S256x256 .f32 :=
  k0_pay6 (k0_pay9 (flRows0 x2)) (k0_pay10 (flRows1 x2)) (flCols0 x3 k) (flCols1 x3 k)

/-- The third flow's squared distances in round `k`. -/
def sq2 (x2 : Vec F S4x256x8 .f32) (x3 : Vec F S4x8x8192 .f32) (k : Fin k0_t1_loop.trips) : FVec F S256x256 .f32 :=
  k0_pay7 (k0_pay11 (flRows2 x2)) (flCols2 x3 k)

/-- One round of the loop on the three carried columns. -/
def trip (x0 : Vec F S256x8 .f32) (x1 : Vec F S8x8192 .f32) (x2 : Vec F S4x256x8 .f32) (x3 : Vec F S4x8x8192 .f32)
    (k : Fin k0_t1_loop.trips) (acc : FVec F S256x1 .f32 × FVec F S256x1 .f32 × FVec F S256x1 .f32) :
    FVec F S256x1 .f32 × FVec F S256x1 .f32 × FVec F S256x1 .f32 :=
  (k0_pay17 acc.1 (mask x0 x1 k),
    k0_pay15 (flRows3 x2) acc.2.1 (k0_pay4 (k0_pay8 x0) (k0_pay12 (F := F)) acc.1 (ptCols x1 k)) (norms01 x2 x3 k)
      (sq2 x2 x3 k) (Scalar.ofBits .f32 0x2B8CBCCC#32) (flCols3 x3 k),
    k0_pay16 (flRows3 x2) acc.2.2 (k0_pay5 (k0_pay8 x0) (k0_pay12 (F := F)) acc.1 (ptCols x1 k)) (norms01 x2 x3 k)
      (sq2 x2 x3 k) (Scalar.ofBits .f32 0x2B8CBCCC#32) (flCols3 x3 k))

/-- The carried columns before round `n`, from zeros. -/
def state (x0 : Vec F S256x8 .f32) (x1 : Vec F S8x8192 .f32) (x2 : Vec F S4x256x8 .f32) (x3 : Vec F S4x8x8192 .f32) :
    ℕ → FVec F S256x1 .f32 × FVec F S256x1 .f32 × FVec F S256x1 .f32
  | 0 => (k0_pay13 (F := F), k0_pay13 (F := F), k0_pay13 (F := F))
  | n + 1 => if h : n < k0_t1_loop.trips then trip x0 x1 x2 x3 ⟨n, h⟩ (state x0 x1 x2 x3 n) else state x0 x1 x2 x3 n

/-- The state after a round is that round's trip. -/
theorem state_succ (x0 : Vec F S256x8 .f32) (x1 : Vec F S8x8192 .f32) (x2 : Vec F S4x256x8 .f32) (x3 : Vec F S4x8x8192 .f32)
    (k : Fin k0_t1_loop.trips) : state x0 x1 x2 x3 (k.val + 1) = trip x0 x1 x2 x3 k (state x0 x1 x2 x3 k.val) :=
  dif_pos k.isLt

section run
variable (c : Dev nD) (i : grid0.Coords) (arg1 : Memref sig .tc .vmem S256x8 .f32) (harg1 : arg1.IsWhole)
  (arg2 : Memref sig .tc .vmem S8x8192 .f32) (harg2 : arg2.IsWhole) (arg3 : Memref sig .tc .vmem S4x256x8 .f32)
  (harg3 : arg3.IsWhole) (arg4 : Memref sig .tc .vmem S4x8x8192 .f32) (harg4 : arg4.IsWhole)
  (arg5 : Memref sig .tc .vmem S1x1 .f32) (harg5 : arg5.IsWhole)
  (x0 : Vec F S256x8 .f32) (x1 : Vec F S8x8192 .f32) (x2 : Vec F S4x256x8 .f32) (x3 : Vec F S4x8x8192 .f32)

/-- The generated round, run over the loaded tables, is `trip`. -/
theorem tripR_eq (k : Fin k0_t1_loop.trips) (acc : FVec F S256x1 .f32 × FVec F S256x1 .f32 × FVec F S256x1 .f32) :
    tripR_k0_t1 Variants.none c none i arg1 harg1 arg2 harg2 arg3 harg3 arg4 harg4 arg5 harg5 x0 (flRows0 x2) (flRows1 x2)
      (flRows2 x2) (flRows3 x2) (harg2.unread x1) (harg4.unread x3) k acc = trip x0 x1 x2 x3 k acc := by
  unfold tripR_k0_t1 trip_k0_t1
  dsimp only
  sl_unfold_words
  simp only [View.readAt_eq_ld, harg2.read_unread, harg4.read_unread]
  rfl

/-- So the generated carried values are `state`. -/
theorem st_eq : ∀ n : ℕ, n ≤ k0_t1_loop.trips →
    st_k0_t1 Variants.none c none i arg1 harg1 arg2 harg2 arg3 harg3 arg4 harg4 arg5 harg5 x0 (flRows0 x2) (flRows1 x2)
      (flRows2 x2) (flRows3 x2) (harg2.unread x1) (harg4.unread x3) (k0_pay13 (F := F), k0_pay13 (F := F), k0_pay13 (F := F)) n
      = state x0 x1 x2 x3 n
  | 0, _ => rfl
  | n + 1, h => by
    refine (st_k0_t1_succ Variants.none c none i arg1 harg1 arg2 harg2 arg3 harg3 arg4 harg4 arg5 harg5 x0 (flRows0 x2)
      (flRows1 x2) (flRows2 x2) (flRows3 x2) (harg2.unread x1) (harg4.unread x3) _ ⟨n, h⟩).trans ?_
    rw [tripR_eq, st_eq n (Nat.le_of_succ_le h)]
    exact (state_succ x0 x1 x2 x3 ⟨n, h⟩).symm

/-- The sum one point adds: the closing arithmetic on the columns carried out of the loop. -/
def block : FVec F S1x1 .f32 :=
  k0_pay18 (state x0 x1 x2 x3 32).1 (state x0 x1 x2 x3 32).2.1 (state x0 x1 x2 x3 32).2.2

theorem trips_eq : k0_t1_loop.trips = 32 := by decide +kernel

theorem hz : (![0, 0] : Fin 2 → Nat) = fun _ => 0 := funext fun a => by fin_cases a <;> rfl

/-- The first point leaves its block's sum. -/
theorem out_A (hc0 : cond0_0 i) (hc1 : ¬cond0_1 i) :
    out0_A_4 c i arg1 harg1 arg2 harg2 arg3 harg3 arg4 harg4 arg5 harg5 hc0 hc1 x0 x1 x2 x3 = block x0 x1 x2 x3 := by
  have hst := st_eq c i arg1 harg1 arg2 harg2 arg3 harg3 arg4 harg4 arg5 harg5 x0 x1 x2 x3 32 trips_eq.ge
  unfold out0_A_4
  rw [View.read_writes_eq_canon _ _ _ (cover0_A_4 c i arg1 harg1 arg2 harg2 arg3 harg3 arg4 harg4 arg5 harg5 hc0 hc1 x0 x1 x2 x3)]
  unfold kernelRun0_A
  dsimp only
  rw [View.canon_unit_zero hz]
  simp only [View.readAt_eq_ld, harg1.read_unread, harg3.read_unread, View.ld_unit_zero (S := S256x8) hz]
  unfold block
  rw [← hst]
  rfl

/-- A later point adds its block's sum to what the buffer held. -/
theorem out_B (hc0 : ¬cond0_0 i) (hc1 : cond0_1 i) (xo : Vec F S1x1 .f32) :
    out0_B_4 c i arg1 harg1 arg2 harg2 arg3 harg3 arg4 harg4 arg5 harg5 hc0 hc1 x0 x1 x2 x3 xo
      = k0_pay1 (block x0 x1 x2 x3) xo := by
  have hst := st_eq c i arg1 harg1 arg2 harg2 arg3 harg3 arg4 harg4 arg5 harg5 x0 x1 x2 x3 32 trips_eq.ge
  unfold out0_B_4
  rw [View.read_writes_eq_canon _ _ _ (cover0_B_4 c i arg1 harg1 arg2 harg2 arg3 harg3 arg4 harg4 arg5 harg5 hc0 hc1 x0 x1 x2 x3 xo)]
  unfold kernelRun0_B
  dsimp only
  sl_unfold_words
  rw [View.canon_unit_zero hz]
  simp only [View.readAt_eq_ld, harg1.read_unread, harg3.read_unread, harg5.read_unread, View.ld_unit_zero (S := S256x8) hz,
    View.ld_unit_zero (S := S1x1) hz]
  unfold block
  rw [← hst]
  rfl

end run

end Cert.KernelIdeal.Ball

end
-- ==== Proof.Final.lean ====
/-
  THE RESULT ARRAY. The 32 points write one 1×1 block, which is written back after the last point only: the array ends
  at the blocks' sums, added first to last (`total`), in the block order of the grid.
-/
module

public import proofs.«01_k».proof.Proof.Body
public import proofs.«01_k».proof.Proof.Gen.KernelIdeal.Value

@[expose] public section

set_option maxRecDepth 16384

noncomputable section

namespace Cert.KernelIdeal.Ball

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The sum point `t` adds, over the blocks its windows hold. -/
def blockAt (c : Dev nD) (t : Fin cfg0.N) : Vec F S1x1 .f32 :=
  block (iblk m c 0 t) (iblk m c 1 t) (iblk m c 2 t) (iblk m c 3 t)

/-- The running sum after point `n`. -/
def total (c : Dev nD) : (n : ℕ) → n < cfg0.N → Vec F S1x1 .f32
  | 0, h => blockAt m c ⟨0, h⟩
  | n + 1, h => k0_pay1 (blockAt m c ⟨n + 1, h⟩) (total c n (Nat.lt_of_succ_lt h))

/-- What the result's buffer holds after point `n` is the running sum. -/
theorem outs_eq (c : Dev nD) : ∀ (n : ℕ) (h : n < cfg0.N), outsAt0 m c n h = total m c n h
  | 0, h => (outsAt0_A m c ⟨0, h⟩ rfl (Nat.not_succ_le_zero 0)).trans (out_A ..)
  | n + 1, h => by
    have hN : cfg0.N = 32 := N_0
    have hB : ¬(⟨n + 1, h⟩ : Fin cfg0.N).val % 32 = 0 := by dsimp only; omega
    refine (outsAt0_B m c ⟨n + 1, h⟩ hB (Nat.succ_le_succ (Nat.zero_le n))).trans ?_
    rw [out_B]
    show k0_pay1 (blockAt m c ⟨n + 1, h⟩) (outsAt0 m c n _) = k0_pay1 (blockAt m c ⟨n + 1, h⟩) (total m c n _)
    rw [outs_eq c n]

theorem lt31 : 31 < cfg0.N := by rw [show cfg0.N = 32 from N_0]; decide

/-- The result: the running sum after the last point. -/
abbrev result (c : Dev nD) : Buf (Elt F) ((c : Thread nD τ).loc main_v35) := total m c 31 lt31

/-- The one write-back writes it. -/
theorem flushed_eq (c : Dev nD) (t : Fin cfg0.N) (hf : (cfg0.win 4).flush t = true) :
    (dats m 0 c).flushed 4 t = ((cfg0.win 4).blk t).view.read (Elt F) (result m c) := by
  have hN : cfg0.N = 32 := N_0
  have h3 : t.val = 31 := by have := (flush0_4 t).mp hf; have := t.isLt; omega
  obtain rfl : t = ⟨31, lt31⟩ := Fin.ext h3
  show (cfg0.win 4).cut (grid0.coords ⟨31, lt31⟩) ((dats m 0 c).after 4 ⟨31, lt31⟩) = _
  rw [after0_4, outs_eq]
  have hz' : (fun a => win0_4.index ⟨31, lt31⟩ a * main_v35.ty.shape.size a) = fun _ => 0 :=
    funext fun a => by fin_cases a <;> decide +kernel
  exact (Memref.read_access_unit_zero (Elt F) main_v35 hz' (fun a => by rw [congrFun hz' a]; simp) (result m c)).symm

/-- So the result array ends at the running sum after the last point. -/
theorem final_eq (c : Dev nD) : (dats m 0 c).arrAt 4 cfg0.N = result m c :=
  (dats m 0 c).arrAt_eq_of_cover 4 (result m c) (flushed_eq m c) fun i =>
    ⟨⟨31, lt31⟩, (flush0_4 _).mpr rfl, by
      show i ∈ ((View.whole main_v35).slice (win0_4.rect ⟨31, lt31⟩)).set
      rw [View.set_slice_whole, Rect.mem_set_unit]
      intro a
      have h0 : (i 0 : Nat) < 1 := (i 0).isLt
      have h1 : (i 1 : Nat) < 1 := (i 1).isLt
      match a with
      | ⟨0, _⟩ =>
        show win0_4.index ⟨31, lt31⟩ 0 * win0_4.size 0 ≤ (i 0 : Nat) ∧ (i 0 : Nat) < win0_4.index ⟨31, lt31⟩ 0 * win0_4.size 0 + win0_4.xsize (grid0.coords ⟨31, lt31⟩) 0
        rw [show win0_4.index ⟨31, lt31⟩ 0 * win0_4.size 0 = 0 from by decide +kernel, show win0_4.xsize (grid0.coords ⟨31, lt31⟩) 0 = 1 from by decide +kernel]; omega
      | ⟨1, _⟩ =>
        show win0_4.index ⟨31, lt31⟩ 1 * win0_4.size 1 ≤ (i 1 : Nat) ∧ (i 1 : Nat) < win0_4.index ⟨31, lt31⟩ 1 * win0_4.size 1 + win0_4.xsize (grid0.coords ⟨31, lt31⟩) 1
        rw [show win0_4.index ⟨31, lt31⟩ 1 * win0_4.size 1 = 0 from by decide +kernel, show win0_4.xsize (grid0.coords ⟨31, lt31⟩) 1 = 1 from by decide +kernel]; omega⟩

/-- The run, read: the result array at the running sum, the arguments unchanged. -/
theorem run : θ_run defs (onTc (τ := τ) (main (F := F))) ⟨m, fun _ => 0, ρ⟩ fun r => ∀ c : Dev nD,
      r.2.mem ((c : Thread nD τ).loc main_v35) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final_eq m c), (h c).2⟩) (Value.run_blocks m ρ)

end Cert.KernelIdeal.Ball

end
-- ==== Proof.Rounds.lean ====
/-
  ONE BLOCK'S SUM, over the reals: after `k` rounds the three carried columns hold, at every row, the rank of column
  `256 k`, the sum at the first sixteen points met and the number at the first of them (`state_eq`); so the block's sum is
  the 256 rows' terms, times 2⁻¹⁹ (`blockAt_eq`), and the result their sum over all 8192 rows (`result_eq`).
-/
module

public import proofs.«01_k».proof.Proof.Tables
public import proofs.«01_k».proof.Proof.Spec
public import proofs.«01_k».proof.Proof.Final
public import Idealize.ShloMosaic.Lib.Pipeline.ValueKit.Tiles
public import Idealize.ShloMosaic.Lib.WordCmp
public import Idealize.ShloMosaic.Lib.WordArith

@[expose] public section

set_option maxRecDepth 16384

noncomputable section

namespace Cert.KernelIdeal.Ball

open Cert.KernelIdeal Cert.KernelIdeal.Gen Idealize.ShloMosaic Idealize.ShloMosaic.TcCoe Idealize.SL.Sem Cert.Ball
open scoped Classical
open Finset (range)

/-! ## Numbers -/

/-- A finite sum of reals, read in the extended reals. -/
theorem coe_sum {ι : Type} (s : Finset ι) (f : ι → ℝ) : ((∑ i ∈ s, f i : ℝ) : EReal) = ∑ i ∈ s, (f i : EReal) := by
  induction s using Finset.induction_on with
  | empty => simp
  | insert a s ha ih => rw [Finset.sum_insert ha, Finset.sum_insert ha, EReal.coe_add, ih]

/-- The smaller of two reals, read in the extended reals. -/
theorem coe_min (x y : ℝ) : ((min x y : ℝ) : EReal) = min (x : EReal) (y : EReal) := EReal.coe_strictMono.monotone.map_min

/-- The larger likewise. -/
theorem coe_max (x y : ℝ) : ((max x y : ℝ) : EReal) = max (x : EReal) (y : EReal) := EReal.coe_strictMono.monotone.map_max

/-- A one-bit word widened and converted is 1 or 0. -/
theorem sitofp_bit (q : Prop) [Decidable q] :
    (FloatOps.sitofp .f32 (BitVec.setWidth 32 (BitVec.ofBool (decide q))) : Ideal .f32) = (((if q then 1 else 0 : ℝ)) : EReal) := by
  by_cases hq : q
  · show ((((BitVec.setWidth 32 (BitVec.ofBool (decide q))).toInt : ℝ)) : EReal) = _
    simp [hq]
  · show ((((BitVec.setWidth 32 (BitVec.ofBool (decide q))).toInt : ℝ)) : EReal) = _
    simp [hq]

/-- The guarded norm: at zero, and from the guard on, `d · rsqrt(max d guard)` is `√d`. -/
theorem norm_eq (d : ℝ) (hd : d = 0 ∨ guard ≤ d) :
    (d : EReal) * Ideal.rsqrt (max (d : EReal) (Ideal.ofBits .f32 0x2B8CBCCC#32)) = ((√d : ℝ) : EReal) := by
  have hg := guard_pos
  rw [guard_coe, ← coe_max]
  have hm : 0 < max d guard := lt_max_of_lt_right hg
  rw [Ideal.rsqrt_coe, if_neg hm.not_gt, if_neg hm.ne', ← EReal.coe_mul]
  congr 1
  rcases hd with rfl | hd
  · simp
  · rw [max_eq_left hd]
    have hd0 : 0 < √d := Real.sqrt_pos.mpr (hg.trans_le hd)
    field_simp
    exact (Real.sq_sqrt (hg.le.trans hd)).symm

theorem ofBits_sixteen : Ideal.ofBits .f32 0x41800000#32 = ((16 : ℝ) : EReal) := by
  simp [Ideal.ofBits, Ideal.ieee]
  rw [← EReal.coe_mul]
  norm_num

theorem ofBits_share : Ideal.ofBits .f32 0x36000000#32 = ((((2 : ℝ) ^ 19)⁻¹ : ℝ) : EReal) := by
  simp [Ideal.ofBits, Ideal.ieee]
  rw [← EReal.coe_mul]
  norm_num

/-! ## One round -/

section round
variable (m : (ℓ : Loc nD τ sig) → Buf (Elt Ideal) ℓ) (c : Dev nD)
variable (X : ℕ → Fin 3 → ℝ) (Y : Fin 4 → ℕ → Fin 3 → ℝ)

/-- The first argument holds the points `X`. -/
def HoldsX : Prop := ∀ (i : Fin 8192) k, (m ((c : Thread nD τ).loc main_arg0) : Vec Ideal S1x8192x3 .f32) (ix3 0 i k) = ((X i.val k : ℝ) : EReal)

/-- The second argument holds the flows `Y`. -/
def HoldsY : Prop := ∀ s (i : Fin 8192) k, (m ((c : Thread nD τ).loc main_arg1) : Vec Ideal S4x8192x3 .f32) (ix3 s i k) = ((Y s i.val k : ℝ) : EReal)

variable (t : Fin cfg0.N) (k : Fin k0_t1_loop.trips) (r l : Fin 256)

theorem ptCols_apply (x1 : Vec Ideal S8x8192 .f32) (e : Fin 8) : ptCols x1 k (ix2 e l) = x1 (ix2 e (colOf k l)) := by
  refine View.ld_unit_apply_of x1 _ _ _ _ _ fun a => ?_
  refine Eq.trans ?_ (congrArg (· + _) (congrFun (k0_off1_eq k) a).symm)
  fin_cases a
  · exact (Nat.zero_add _).symm
  · rfl

theorem flCols0_apply (x3 : Vec Ideal S4x8x8192 .f32) (e : Fin 8) : flCols0 x3 k (ix3 0 e l) = x3 (ix3 0 e (colOf k l)) := by
  refine View.ld_unit_apply_of x3 _ _ _ _ _ fun a => ?_
  refine Eq.trans ?_ (congrArg (· + _) (congrFun (k0_off2_eq k) a).symm)
  fin_cases a
  · rfl
  · exact (Nat.zero_add _).symm
  · rfl

theorem flCols1_apply (x3 : Vec Ideal S4x8x8192 .f32) (e : Fin 8) : flCols1 x3 k (ix3 0 e l) = x3 (ix3 1 e (colOf k l)) := by
  refine View.ld_unit_apply_of x3 _ _ _ _ _ fun a => ?_
  refine Eq.trans ?_ (congrArg (· + _) (congrFun (k0_off3_eq k) a).symm)
  fin_cases a
  · rfl
  · exact (Nat.zero_add _).symm
  · rfl

theorem flCols2_apply (x3 : Vec Ideal S4x8x8192 .f32) (e : Fin 8) : flCols2 x3 k (ix3 0 e l) = x3 (ix3 2 e (colOf k l)) := by
  refine View.ld_unit_apply_of x3 _ _ _ _ _ fun a => ?_
  refine Eq.trans ?_ (congrArg (· + _) (congrFun (k0_off4_eq k) a).symm)
  fin_cases a
  · rfl
  · exact (Nat.zero_add _).symm
  · rfl

theorem flCols3_apply (x3 : Vec Ideal S4x8x8192 .f32) (e : Fin 8) : flCols3 x3 k (ix3 0 e l) = x3 (ix3 3 e (colOf k l)) := by
  refine View.ld_unit_apply_of x3 _ _ _ _ _ fun a => ?_
  refine Eq.trans ?_ (congrArg (· + _) (congrFun (k0_off5_eq k) a).symm)
  fin_cases a
  · rfl
  · exact (Nat.zero_add _).symm
  · rfl

theorem flRows0_apply (x2 : Vec Ideal S4x256x8 .f32) (e : Fin 8) : flRows0 x2 (ix3 0 r e) = x2 (ix3 0 r e) :=
  View.ld_unit_apply_of x2 _ _ _ _ _ fun a => by fin_cases a <;> exact (Nat.zero_add _).symm

theorem flRows1_apply (x2 : Vec Ideal S4x256x8 .f32) (e : Fin 8) : flRows1 x2 (ix3 0 r e) = x2 (ix3 1 r e) :=
  View.ld_unit_apply_of x2 _ _ _ _ _ fun a => by
    fin_cases a
    · rfl
    · exact (Nat.zero_add _).symm
    · exact (Nat.zero_add _).symm

theorem flRows2_apply (x2 : Vec Ideal S4x256x8 .f32) (e : Fin 8) : flRows2 x2 (ix3 0 r e) = x2 (ix3 2 r e) :=
  View.ld_unit_apply_of x2 _ _ _ _ _ fun a => by
    fin_cases a
    · rfl
    · exact (Nat.zero_add _).symm
    · exact (Nat.zero_add _).symm

theorem flRows3_apply (x2 : Vec Ideal S4x256x8 .f32) (e : Fin 8) : flRows3 x2 (ix3 0 r e) = x2 (ix3 3 r e) :=
  View.ld_unit_apply_of x2 _ _ _ _ _ fun a => by
    fin_cases a
    · rfl
    · exact (Nat.zero_add _).symm
    · exact (Nat.zero_add _).symm

variable {m c X Y}

/-- In round `k` of block `t`, the points' product is the squared distance. -/
theorem pt_prod (hX : HoldsX m c X) :
    ∑ e, (show EReal from (iblk m c 0 t : Vec Ideal S256x8 .f32) (ix2 r e)) * ptCols (iblk m c 1 t : Vec Ideal S8x8192 .f32) k (ix2 e l)
      = ((sqd X (rowOf t r) (colOf k l) : ℝ) : EReal) := by
  simp only [ptCols_apply, iblk_0, iblk_1]
  exact ptTab_mul _ X hX _ _

theorem fl_prod0 (hY : HoldsY m c Y) :
    ∑ e, flRows0 (iblk m c 2 t : Vec Ideal S4x256x8 .f32) (ix3 0 r e) * flCols0 (iblk m c 3 t : Vec Ideal S4x8x8192 .f32) k (ix3 0 e l)
      = ((sqd (Y 0) (rowOf t r) (colOf k l) : ℝ) : EReal) := by
  simp only [flCols0_apply, flRows0_apply, iblk_2, iblk_3]
  exact flTab_mul _ Y hY _ _ _

theorem fl_prod1 (hY : HoldsY m c Y) :
    ∑ e, flRows1 (iblk m c 2 t : Vec Ideal S4x256x8 .f32) (ix3 0 r e) * flCols1 (iblk m c 3 t : Vec Ideal S4x8x8192 .f32) k (ix3 0 e l)
      = ((sqd (Y 1) (rowOf t r) (colOf k l) : ℝ) : EReal) := by
  simp only [flCols1_apply, flRows1_apply, iblk_2, iblk_3]
  exact flTab_mul _ Y hY _ _ _

theorem fl_prod2 (hY : HoldsY m c Y) :
    ∑ e, flRows2 (iblk m c 2 t : Vec Ideal S4x256x8 .f32) (ix3 0 r e) * flCols2 (iblk m c 3 t : Vec Ideal S4x8x8192 .f32) k (ix3 0 e l)
      = ((sqd (Y 2) (rowOf t r) (colOf k l) : ℝ) : EReal) := by
  simp only [flCols2_apply, flRows2_apply, iblk_2, iblk_3]
  exact flTab_mul _ Y hY _ _ _

theorem fl_prod3 (hY : HoldsY m c Y) :
    ∑ e, flRows3 (iblk m c 2 t : Vec Ideal S4x256x8 .f32) (ix3 0 r e) * flCols3 (iblk m c 3 t : Vec Ideal S4x8x8192 .f32) k (ix3 0 e l)
      = ((sqd (Y 3) (rowOf t r) (colOf k l) : ℝ) : EReal) := by
  simp only [flCols3_apply, flRows3_apply, iblk_2, iblk_3]
  exact flTab_mul _ Y hY _ _ _

/-- The mask says which columns lie in the row's ball. -/
theorem mask_apply (hX : HoldsX m c X) :
    mask (iblk m c 0 t : Vec Ideal S256x8 .f32) (iblk m c 1 t : Vec Ideal S8x8192 .f32) k (ix2 r l)
      = BitVec.ofBool (decide (near X (rowOf t r) (colOf k l))) := by
  pointwise [mask, k0_pay2, k0_pay8]
  rw [pt_prod t k r l hX, radius2_coe]
  simp only [EReal.coe_lt_coe_iff]
  exact congrArg _ (decide_eq_decide.mpr Iff.rfl)

/-- The running count plus the count inside the round is the column's rank. -/
theorem rank_apply (hX : HoldsX m c X) (a : FVec Ideal S256x1 .f32)
    (ha : a (ix2 r 0) = ((rank (near X (rowOf t r)) (256 * k.val) : ℝ) : EReal)) :
    k0_pay3 (k0_pay8 (iblk m c 0 t : Vec Ideal S256x8 .f32)) (k0_pay12 (F := Ideal)) a
        (ptCols (iblk m c 1 t : Vec Ideal S8x8192 .f32) k) (ix2 r l)
      = ((rank (near X (rowOf t r)) (colOf k l).val : ℝ) : EReal) := by
  have hm : ∀ x, k0_pay2 (k0_pay8 (iblk m c 0 t : Vec Ideal S256x8 .f32)) (ptCols (iblk m c 1 t : Vec Ideal S8x8192 .f32) k) (ix2 r x)
      = BitVec.ofBool (decide (near X (rowOf t r) (colOf k x))) := fun x => mask_apply t k r x hX
  pointwise [k0_pay3, k0_pay12]
  have hs : ∀ x : Fin 256, IntOp.cmpi .slt (BitVec.ofNat 32 x.val) (BitVec.ofNat 32 l.val) = BitVec.ofBool (decide (x.val < l.val)) :=
    fun x => WordCmp.cmpi_slt_ofNat (by have := x.isLt; norm_num; omega) (by have := l.isLt; norm_num; omega)
  simp only [hm, hs, sitofp_bit, ← EReal.coe_mul, ha]
  rw [← coe_sum, ← EReal.coe_add]
  congr 1
  show _ = ((rank (near X (rowOf t r)) (256 * k.val + l.val) : ℕ) : ℝ)
  rw [rank_add]
  congr 1
  show ∑ x : Fin 256, (if near X (rowOf t r) (256 * k.val + x.val) then (1 : ℝ) else 0) * (if x.val < l.val then 1 else 0) = _
  rw [Fin.sum_univ_eq_sum_range (fun x => (if near X (rowOf t r) (256 * k.val + x) then (1 : ℝ) else 0) * (if x < l.val then 1 else 0)) 256]
  have hsub : range l.val ⊆ range 256 := Finset.range_subset_range.mpr l.isLt.le
  rw [← Finset.sum_subset hsub fun x _ hx => by rw [if_neg (fun h => hx (Finset.mem_range.mpr h)), mul_zero]]
  exact Finset.sum_congr rfl fun x hx => by rw [if_pos (Finset.mem_range.mp hx), mul_one]

/-- The first sixteen of the ball. -/
theorem sixteen_apply (hX : HoldsX m c X) (a : FVec Ideal S256x1 .f32)
    (ha : a (ix2 r 0) = ((rank (near X (rowOf t r)) (256 * k.val) : ℝ) : EReal)) :
    k0_pay4 (k0_pay8 (iblk m c 0 t : Vec Ideal S256x8 .f32)) (k0_pay12 (F := Ideal)) a
        (ptCols (iblk m c 1 t : Vec Ideal S8x8192 .f32) k) (ix2 r l)
      = BitVec.ofBool (decide (near X (rowOf t r) (colOf k l) ∧ rank (near X (rowOf t r)) (colOf k l).val < 16)) := by
  have hm : k0_pay2 (k0_pay8 (iblk m c 0 t : Vec Ideal S256x8 .f32)) (ptCols (iblk m c 1 t : Vec Ideal S8x8192 .f32) k) (ix2 r l)
      = BitVec.ofBool (decide (near X (rowOf t r) (colOf k l))) := mask_apply t k r l hX
  pointwise [k0_pay4]
  rw [hm, rank_apply t k r l hX a ha, ofBits_sixteen]
  simp only [EReal.coe_lt_coe_iff, Nat.cast_lt_ofNat, WordArith.andi_ofBool, Bool.decide_and]

/-- The first of the ball. -/
theorem first_apply (hX : HoldsX m c X) (a : FVec Ideal S256x1 .f32)
    (ha : a (ix2 r 0) = ((rank (near X (rowOf t r)) (256 * k.val) : ℝ) : EReal)) :
    k0_pay5 (k0_pay8 (iblk m c 0 t : Vec Ideal S256x8 .f32)) (k0_pay12 (F := Ideal)) a
        (ptCols (iblk m c 1 t : Vec Ideal S8x8192 .f32) k) (ix2 r l)
      = BitVec.ofBool (decide (near X (rowOf t r) (colOf k l) ∧ rank (near X (rowOf t r)) (colOf k l).val = 0)) := by
  have hm : k0_pay2 (k0_pay8 (iblk m c 0 t : Vec Ideal S256x8 .f32)) (ptCols (iblk m c 1 t : Vec Ideal S8x8192 .f32) k) (ix2 r l)
      = BitVec.ofBool (decide (near X (rowOf t r) (colOf k l))) := mask_apply t k r l hX
  pointwise [k0_pay5]
  rw [hm, rank_apply t k r l hX a ha]
  simp only [EReal.coe_eq_zero, Nat.cast_eq_zero, WordArith.andi_ofBool, Bool.decide_and]

/-- At one of the first sixteen columns of the ball, the four norms added. -/
theorem norms_apply (hY : HoldsY m c Y) (hA : Apart X Y) (hn : near X (rowOf t r) (colOf k l))
    (h16 : rank (near X (rowOf t r)) (colOf k l) < 16) :
    k0_pay14 (flRows3 (iblk m c 2 t : Vec Ideal S4x256x8 .f32))
        (norms01 (iblk m c 2 t : Vec Ideal S4x256x8 .f32) (iblk m c 3 t : Vec Ideal S4x8x8192 .f32) k)
        (sq2 (iblk m c 2 t : Vec Ideal S4x256x8 .f32) (iblk m c 3 t : Vec Ideal S4x8x8192 .f32) k)
        (Scalar.ofBits .f32 0x2B8CBCCC#32) (flCols3 (iblk m c 3 t : Vec Ideal S4x8x8192 .f32) k) (ix2 r l)
      = ((norms Y (rowOf t r) (colOf k l) : ℝ) : EReal) := by
  pointwise [k0_pay14, norms01, k0_pay6, k0_pay9, k0_pay10, sq2, k0_pay7, k0_pay11]
  rw [fl_prod0 t k r l hY, fl_prod1 t k r l hY, fl_prod2 t k r l hY, fl_prod3 t k r l hY]
  rw [norm_eq _ (hA 0 _ _ hn h16), norm_eq _ (hA 1 _ _ hn h16), norm_eq _ (hA 2 _ _ hn h16), norm_eq _ (hA 3 _ _ hn h16)]
  rw [← EReal.coe_add, ← EReal.coe_add, ← EReal.coe_add]
  rfl

/-- A selection among the ball's first sixteen columns, of the norms. -/
theorem select_norms (hY : HoldsY m c Y) (hA : Apart X Y) {q : Prop} [Decidable q]
    (hq : q → near X (rowOf t r) (colOf k l) ∧ rank (near X (rowOf t r)) (colOf k l) < 16) :
    Scalar.select (BitVec.ofBool (decide q)) (k0_pay14 (flRows3 (iblk m c 2 t : Vec Ideal S4x256x8 .f32))
        (norms01 (iblk m c 2 t : Vec Ideal S4x256x8 .f32) (iblk m c 3 t : Vec Ideal S4x8x8192 .f32) k)
        (sq2 (iblk m c 2 t : Vec Ideal S4x256x8 .f32) (iblk m c 3 t : Vec Ideal S4x8x8192 .f32) k)
        (Ideal.ofBits .f32 0x2B8CBCCC#32) (flCols3 (iblk m c 3 t : Vec Ideal S4x8x8192 .f32) k) (ix2 r l)) (0 : EReal)
      = (((if q then norms Y (rowOf t r) (colOf k l) else 0 : ℝ)) : EReal) := by
  by_cases h : q
  · rw [if_pos h, decide_eq_true h]
    exact norms_apply t k r l hY hA (hq h).1 (hq h).2
  · rw [if_neg h, decide_eq_false h]
    rfl

/-- What the carried columns hold before round `n`, at row `r` of block `t`. -/
def Holds (X : ℕ → Fin 3 → ℝ) (Y : Fin 4 → ℕ → Fin 3 → ℝ) (t : Fin cfg0.N) (n : ℕ)
    (a : FVec Ideal S256x1 .f32 × FVec Ideal S256x1 .f32 × FVec Ideal S256x1 .f32) : Prop :=
  ∀ r : Fin 256, a.1 (ix2 r 0) = ((rank (near X (rowOf t r)) (256 * n) : ℝ) : EReal)
    ∧ a.2.1 (ix2 r 0) = ((firstSum (near X (rowOf t r)) (norms Y (rowOf t r)) (256 * n) : ℝ) : EReal)
    ∧ a.2.2 (ix2 r 0) = ((firstAt (near X (rowOf t r)) (norms Y (rowOf t r)) (256 * n) : ℝ) : EReal)

/-- A round keeps it. -/
theorem trip_holds (hX : HoldsX m c X) (hY : HoldsY m c Y) (hA : Apart X Y)
    (a : FVec Ideal S256x1 .f32 × FVec Ideal S256x1 .f32 × FVec Ideal S256x1 .f32) (ha : Holds X Y t k.val a) :
    Holds X Y t (k.val + 1) (trip (iblk m c 0 t) (iblk m c 1 t) (iblk m c 2 t) (iblk m c 3 t) k a) := by
  intro r
  obtain ⟨h1, h2, h3⟩ := ha r
  have hm : ∀ x, k0_pay2 (k0_pay8 (iblk m c 0 t : Vec Ideal S256x8 .f32)) (ptCols (iblk m c 1 t : Vec Ideal S8x8192 .f32) k) (ix2 r x)
      = BitVec.ofBool (decide (near X (rowOf t r) (colOf k x))) := fun x => mask_apply t k r x hX
  have hk := fun l => rank_apply t k r l hX a.1 h1
  refine ⟨?_, ?_, ?_⟩
  · show k0_pay17 a.1 (mask (iblk m c 0 t : Vec Ideal S256x8 .f32) (iblk m c 1 t : Vec Ideal S8x8192 .f32) k) (ix2 r 0) = _
    pointwise [k0_pay17]
    simp only [mask_apply t k r _ hX, sitofp_bit]
    rw [h1, ← coe_sum, ← EReal.coe_add, Nat.mul_succ, rank_add]
    congr 2
  · show k0_pay15 _ a.2.1 _ _ _ _ _ (ix2 r 0) = _
    pointwise [k0_pay15]
    rw [Finset.sum_congr rfl fun l _ => (congrArg (fun b => Scalar.select b _ (0 : EReal))
      (sixteen_apply t k r l hX a.1 h1)).trans (select_norms t k r l hY hA id)]
    rw [h2, ← coe_sum, ← EReal.coe_add, Nat.mul_succ, firstSum_add]
    congr 2
  · show k0_pay16 _ a.2.2 _ _ _ _ _ (ix2 r 0) = _
    pointwise [k0_pay16]
    rw [Finset.sum_congr rfl fun l _ => (congrArg (fun b => Scalar.select b _ (0 : EReal))
      (first_apply t k r l hX a.1 h1)).trans (select_norms t k r l hY hA fun h => ⟨h.1, by rw [h.2]; decide⟩)]
    rw [h3, ← coe_sum, ← EReal.coe_add, Nat.mul_succ, firstAt_add]
    congr 2

/-- So the carried columns hold what they should before every round. -/
theorem state_holds (hX : HoldsX m c X) (hY : HoldsY m c Y) (hA : Apart X Y) : ∀ n : ℕ, n ≤ 32 →
    Holds X Y t n (state (iblk m c 0 t) (iblk m c 1 t) (iblk m c 2 t) (iblk m c 3 t) n)
  | 0, _ => fun r => by
    refine ⟨?_, ?_, ?_⟩ <;> (show k0_pay13 (F := Ideal) (ix2 r 0) = _) <;> pointwise [k0_pay13] <;>
      simp [rank, firstSum, firstAt]
  | n + 1, h => by
    have hn : n < k0_t1_loop.trips := by have := trips_eq; omega
    rw [state_succ _ _ _ _ ⟨n, hn⟩]
    exact trip_holds t ⟨n, hn⟩ hX hY hA _ (state_holds hX hY hA n (Nat.le_of_succ_le h))

/-- A block's sum: its 256 rows' terms, times 2⁻¹⁹. -/
theorem blockAt_eq (hX : HoldsX m c X) (hY : HoldsY m c Y) (hA : Apart X Y) :
    blockAt m c t (ix2 0 0)
      = (((∑ r ∈ range 256, rowSum (near X (256 * t.val + r)) (norms Y (256 * t.val + r))) * (2 ^ 19)⁻¹ : ℝ) : EReal) := by
  have hs := state_holds t hX hY hA 32 le_rfl
  unfold blockAt block
  pointwise [k0_pay18]
  rw [ofBits_share, ofBits_sixteen]
  simp only [(hs _).1, (hs _).2.1, (hs _).2.2, ← coe_min, ← EReal.coe_sub, ← EReal.coe_mul, ← EReal.coe_add]
  rw [← coe_sum, ← EReal.coe_mul]
  congr 2

/-- The running sum after point `n`: the terms of the rows up to there, times 2⁻¹⁹. -/
theorem total_eq (hX : HoldsX m c X) (hY : HoldsY m c Y) (hA : Apart X Y) : ∀ (n : ℕ) (h : n < cfg0.N),
    total m c n h (ix2 0 0) = (((∑ i ∈ range (256 * (n + 1)), rowSum (near X i) (norms Y i)) * (2 ^ 19)⁻¹ : ℝ) : EReal)
  | 0, h => by
    refine (blockAt_eq ⟨0, h⟩ hX hY hA).trans ?_
    simp only [Nat.mul_zero, Nat.zero_add, Nat.mul_one]
  | n + 1, h => by
    show k0_pay1 (blockAt m c ⟨n + 1, h⟩) (total m c n _) (ix2 0 0) = _
    pointwise [k0_pay1]
    rw [total_eq hX hY hA n, blockAt_eq ⟨n + 1, h⟩ hX hY hA, ← EReal.coe_add, Nat.mul_succ 256 (n + 1), Finset.sum_range_add,
      add_mul]

/-- The result: the terms of all 8192 rows, times 2⁻¹⁹. -/
theorem result_eq (hX : HoldsX m c X) (hY : HoldsY m c Y) (hA : Apart X Y) :
    (result m c : Vec Ideal S1x1 .f32) (ix2 0 0)
      = (((∑ i ∈ range 8192, rowSum (near X i) (norms Y i)) * (2 ^ 19)⁻¹ : ℝ) : EReal) := total_eq hX hY hA 31 lt31

end round

end Cert.KernelIdeal.Ball

end
-- ==== Proof.lean ====
/-
  THE PROOF OF `Cert.Claim`. The three frames are the generated runs; no operation of the kernel is rewritten, so its
  idealization keeps it; and the value claim joins the kernel's result over the reals (`Proof/Rounds.lean`) with the
  reference's (`Proof/RefValue.lean`), both the sum over all points of the same term.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Args
public import proofs.«01_k».proof.Proof.Rounds
public import proofs.«01_k».proof.Proof.RefValue
public import Idealize.ShloMosaic.Adequacy
public import Idealize.ShloMosaic.Init

@[expose] public section

noncomputable section

namespace Cert.Proof

open Idealize.ShloMosaic Idealize.SL.Sem Cert.Ball

/-- An index of a one by one array. -/
theorem idx_one (i : (⟨2, ![1, 1]⟩ : Shape).Idx) : i = ix2 0 0 := by
  funext a
  apply Fin.ext
  have h0 : (i 0 : ℕ) < 1 := (i 0).isLt
  have h1 : (i 1 : ℕ) < 1 := (i 1).isLt
  match a with
  | ⟨0, _⟩ => exact Nat.lt_one_iff.mp h0
  | ⟨1, _⟩ => exact Nat.lt_one_iff.mp h1

theorem frame_reference (m g) : θ_run (Cert.ReferenceIdeal.defs (F := Ideal)) (onTc (τ := Cert.ReferenceIdeal.τ) (Cert.ReferenceIdeal.main (F := Ideal)))
    ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

/-- The kernel's result is the reference's. -/
theorem algebraic : Cert.algebraic_KernelIdeal_ReferenceIdeal_pre_finite_and_apart (hPre_finite_and_apart := Cert.Pre_finite_and_apart.Ball.facts) := by
  intro m g m' g' hpre hagree
  refine ⟨fun c => Cert.KernelIdeal.Ball.result m c, Cert.KernelIdeal.Ball.run m g,
    (θ_run Cert.ReferenceIdeal.defs _ _).mono (fun r h c => ⟨(h c).1.trans ?_, (h c).2⟩) (Cert.ReferenceIdeal.Value.run (F := Ideal) m' g')⟩
  obtain ⟨h0, h1, h2⟩ := hpre c
  have hX := Cert.Pre_finite_and_apart.Ball.holds_points h0
  have hY := Cert.Pre_finite_and_apart.Ball.holds_flows h1
  have hX' : Cert.ReferenceIdeal.Ball.HoldsX (StableHlo.launchContents m' c) _ := fun i k => (congrFun (hagree c).1 (ix3 0 i k)).trans (hX i k)
  have hY' : Cert.ReferenceIdeal.Ball.HoldsY (StableHlo.launchContents m' c) _ := fun s i k => (congrFun (hagree c).2 (ix3 s i k)).trans (hY s i k)
  have hA := Cert.Pre_finite_and_apart.Ball.apart hX' hY'
    ((congrArg₂ (fun x y => (Cert.Pre_finite_and_apart.fn (F := Ideal) x y).2.2) (hagree c).1 (hagree c).2).trans h2)
  have hk := Cert.KernelIdeal.Ball.result_eq (m := m) (c := c) hX hY hA
  have hr := Cert.ReferenceIdeal.Ball.result_eq hX' hY'
  funext i
  obtain rfl := idx_one i
  exact hr.trans hk.symm

theorem claim : Cert.Claim :=
  ⟨Cert.Kernel.Gen.facts, Cert.KernelIdeal.Gen.facts, Cert.ReferenceIdeal.Gen.facts, Cert.Pre_finite_and_apart.Ball.facts,
    fun m g _ => Cert.Kernel.Gen.frame m g, fun m g _ => Cert.KernelIdeal.Gen.frame m g, fun m g _ => Cert.KernelIdeal.Gen.frame m g,
    fun m g _ => frame_reference m g, fun m g _ => frame_reference m g, trivial, algebraic⟩

end Cert.Proof

end
